-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x256x768 : Shape := ⟨3, ![2, 256, 768]⟩
abbrev S768x512 : Shape := ⟨2, ![768, 512]⟩
abbrev S512x768 : Shape := ⟨2, ![512, 768]⟩
abbrev S2x512x8x64 : Shape := ⟨4, ![2, 512, 8, 64]⟩
abbrev S_ : Shape := ⟨0, ![]⟩

class Facts : Prop where
  bcast_S_S2x256x768 : S_.BroadcastsInDim S2x256x768 (![] : Fin 0 → Fin S2x256x768.rank)
  bcast_S_S768x512 : S_.BroadcastsInDim S768x512 (![] : Fin 0 → Fin S768x512.rank)
  bcast_S_S2x512x8x64 : S_.BroadcastsInDim S2x512x8x64 (![] : Fin 0 → Fin S2x512x8x64.rank)

variable [Facts]

def fn {F : FTy → Type} [FloatOps F] (main_arg0 : FVec F S2x256x768 .bf16) (main_arg1 : FVec F S768x512 .bf16) (main_arg2 : FVec F S512x768 .bf16) (main_arg3 : FVec F S2x512x8x64 .bf16) (main_arg4 : FVec F S2x512x8x64 .bf16) : IVec S2x256x768 1 × IVec S768x512 1 × IVec S2x512x8x64 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_v3 : FVec F S768x512 .bf16 := Host.absf main_arg1
  let main_cst_0 : FVec F S_ .bf16 := constant S_ .bf16 0x7F80#16
  let main_v4 : FVec F S768x512 .bf16 := broadcastInDim S768x512 ![] bcast_S_S768x512 main_cst_0
  let main_v5 : IVec S768x512 1 := cmpf .olt main_v3 main_v4
  let main_v6 : FVec F S2x512x8x64 .bf16 := Host.absf main_arg3
  let main_cst_1 : FVec F S_ .bf16 := constant S_ .bf16 0x7F80#16
  let main_v7 : FVec F S2x512x8x64 .bf16 := broadcastInDim S2x512x8x64 ![] bcast_S_S2x512x8x64 main_cst_1
  let main_v8 : IVec S2x512x8x64 1 := cmpf .olt main_v6 main_v7
  (main_v2, main_v5, main_v8)
-- ==== Pre_scores_finite_ReferenceIdeal.lean ====
abbrev S2x256x768 : Shape := ⟨3, ![2, 256, 768]⟩
abbrev S768x2048 : Shape := ⟨2, ![768, 2048]⟩
abbrev S2048x768 : Shape := ⟨2, ![2048, 768]⟩
abbrev S2x512x32x64 : Shape := ⟨4, ![2, 512, 32, 64]⟩
abbrev S_ : Shape := ⟨0, ![]⟩

class Facts : Prop where
  bcast_S_S2x256x768 : S_.BroadcastsInDim S2x256x768 (![] : Fin 0 → Fin S2x256x768.rank)
  bcast_S_S768x2048 : S_.BroadcastsInDim S768x2048 (![] : Fin 0 → Fin S768x2048.rank)
  bcast_S_S2x512x32x64 : S_.BroadcastsInDim S2x512x32x64 (![] : Fin 0 → Fin S2x512x32x64.rank)

variable [Facts]

def fn {F : FTy → Type} [FloatOps F] (main_arg0 : FVec F S2x256x768 .bf16) (main_arg1 : FVec F S768x2048 .bf16) (main_arg2 : FVec F S2048x768 .bf16) (main_arg3 : FVec F S2x512x32x64 .bf16) (main_arg4 : FVec F S2x512x32x64 .bf16) : IVec S2x256x768 1 × IVec S768x2048 1 × IVec S2x512x32x64 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_v3 : FVec F S768x2048 .bf16 := Host.absf main_arg1
  let main_cst_0 : FVec F S_ .bf16 := constant S_ .bf16 0x7F80#16
  let main_v4 : FVec F S768x2048 .bf16 := broadcastInDim S768x2048 ![] bcast_S_S768x2048 main_cst_0
  let main_v5 : IVec S768x2048 1 := cmpf .olt main_v3 main_v4
  let main_v6 : FVec F S2x512x32x64 .bf16 := Host.absf main_arg3
  let main_cst_1 : FVec F S_ .bf16 := constant S_ .bf16 0x7F80#16
  let main_v7 : FVec F S2x512x32x64 .bf16 := broadcastInDim S2x512x32x64 ![] bcast_S_S2x512x32x64 main_cst_1
  let main_v8 : IVec S2x512x32x64 1 := cmpf .olt main_v6 main_v7
  (main_v2, main_v5, main_v8)
-- ==== Kernel.lean ====
abbrev S2x256x768 : Shape := ⟨3, ![2, 256, 768]⟩
abbrev S768x512 : Shape := ⟨2, ![768, 512]⟩
abbrev S512x768 : Shape := ⟨2, ![512, 768]⟩
abbrev S2x512x8x64 : Shape := ⟨4, ![2, 512, 8, 64]⟩
abbrev S2x512x512 : Shape := ⟨3, ![2, 512, 512]⟩
abbrev S4x256x384 : Shape := ⟨3, ![4, 256, 384]⟩
abbrev S8x256x192 : Shape := ⟨3, ![8, 256, 192]⟩
abbrev S256x512 : Shape := ⟨2, ![256, 512]⟩
abbrev S4 : Shape := ⟨1, ![4]⟩
abbrev S8 : Shape := ⟨1, ![8]⟩
abbrev S_ : Shape := ⟨0, ![]⟩
abbrev S1x256x768 : Shape := ⟨3, ![1, 256, 768]⟩
abbrev S256x768 : Shape := ⟨2, ![256, 768]⟩
abbrev S1x512x512 : Shape := ⟨3, ![1, 512, 512]⟩
abbrev S512x512 : Shape := ⟨2, ![512, 512]⟩
abbrev S256x64 : Shape := ⟨2, ![256, 64]⟩
abbrev S512x64 : Shape := ⟨2, ![512, 64]⟩
abbrev S256 : Shape := ⟨1, ![256]⟩
abbrev S256x1 : Shape := ⟨2, ![256, 1]⟩
abbrev S512x384 : Shape := ⟨2, ![512, 384]⟩
abbrev S256x384 : Shape := ⟨2, ![256, 384]⟩
abbrev S1x256x384 : Shape := ⟨3, ![1, 256, 384]⟩
abbrev S1 : Shape := ⟨1, ![1]⟩
abbrev S512x192 : Shape := ⟨2, ![512, 192]⟩
abbrev S256x192 : Shape := ⟨2, ![256, 192]⟩
abbrev S1x256x192 : Shape := ⟨3, ![1, 256, 192]⟩

abbrev nBuf : Space → Nat
  | .hbm => 8
  | .vmem => 11
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S512x768, .bf16⟩
  | .hbm, ⟨3, _⟩ => ⟨S2x512x8x64, .bf16⟩
  | .hbm, ⟨4, _⟩ => ⟨S2x512x8x64, .bf16⟩
  | .hbm, ⟨5, _⟩ => ⟨S2x512x512, .bf16⟩
  | .hbm, ⟨6, _⟩ => ⟨S2x512x512, .bf16⟩
  | .hbm, ⟨7, _⟩ => ⟨S2x256x768, .f32⟩
  | .local _ .vmem, ⟨0, _⟩ => ⟨S2x256x768, .bf16⟩
  | .local _ .vmem, ⟨1, _⟩ => ⟨S768x512, .bf16⟩
  | .local _ .vmem, ⟨2, _⟩ => ⟨S512x768, .bf16⟩
  | .local _ .vmem, ⟨3, _⟩ => ⟨S2x512x512, .bf16⟩
  | .local _ .vmem, ⟨4, _⟩ => ⟨S2x512x512, .bf16⟩
  | .local _ .vmem, ⟨5, _⟩ => ⟨S2x256x768, .f32⟩
  | .local _ .vmem, ⟨6, _⟩ => ⟨S4x256x384, .bf16⟩
  | .local _ .vmem, ⟨7, _⟩ => ⟨S4x256x384, .bf16⟩
  | .local _ .vmem, ⟨8, _⟩ => ⟨S8x256x192, .bf16⟩
  | .local _ .vmem, ⟨9, _⟩ => ⟨S8x256x192, .bf16⟩
  | .local _ .vmem, ⟨10, _⟩ => ⟨S256x512, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_70 : BitVec 32 := 1#32
  let v167 : BitVec 32 := Scalar.muli v3 c1_i32_70
  let v168 : BitVec 32 := Scalar.addi c0_i32_71 v167
  v168.toNat
def k0_dev4 (d0 : Dev nD) : Nat :=
  let c0_i32_86 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_85 : BitVec 32 := 1#32
  let v184 : BitVec 32 := Scalar.muli v4 c1_i32_85
  let v185 : BitVec 32 := Scalar.addi c0_i32_86 v184
  v185.toNat
def k0_dev5 (d0 : Dev nD) : Nat :=
  let c0_i32_158 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_157 : BitVec 32 := 1#32
  let v294 : BitVec 32 := Scalar.muli v4 c1_i32_157
  let v295 : BitVec 32 := Scalar.addi c0_i32_158 v294
  v295.toNat
def k0_dev6 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_194 : BitVec 32 := 1#32
  let v326 : BitVec 32 := Scalar.muli v3 c1_i32_194
  let v327 : BitVec 32 := Scalar.addi c0_i32_195 v326
  v327.toNat
def k0_dev7 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_234 : BitVec 32 := 1#32
  let v411 : BitVec 32 := Scalar.muli v3 c1_i32_234
  let v412 : BitVec 32 := Scalar.addi c0_i32_235 v411
  v412.toNat
def k0_dev8 (d0 : Dev nD) : Nat :=
  let c0_i32_251 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_250 : BitVec 32 := 1#32
  let v428 : BitVec 32 := Scalar.muli v4 c1_i32_250
  let v429 : BitVec 32 := Scalar.addi c0_i32_251 v428
  v429.toNat
def k0_dev9 (d0 : Dev nD) : Nat :=
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_266 : BitVec 32 := 1#32
  let v445 : BitVec 32 := Scalar.muli v3 c1_i32_266
  let v446 : BitVec 32 := Scalar.addi c0_i32_267 v445
  v446.toNat
def k0_dev10 (d0 : Dev nD) : Nat :=
  let c0_i32_283 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_282 : BitVec 32 := 1#32
  let v462 : BitVec 32 := Scalar.muli v4 c1_i32_282
  let v463 : BitVec 32 := Scalar.addi c0_i32_283 v462
  v463.toNat
def k0_dev11 (d0 : Dev nD) : Nat :=
  let c0_i32_376 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_375 : BitVec 32 := 1#32
  let v542 : BitVec 32 := Scalar.muli v4 c1_i32_375
  let v543 : BitVec 32 := Scalar.addi c0_i32_376 v542
  v543.toNat
def k0_dev12 (d0 : Dev nD) : Nat :=
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_411 : BitVec 32 := 1#32
  let v574 : BitVec 32 := Scalar.muli v3 c1_i32_411
  let v575 : BitVec 32 := Scalar.addi c0_i32_412 v574
  v575.toNat
def k0_dev13 (d0 : Dev nD) : Nat :=
  let c0_i32_448 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_447 : BitVec 32 := 1#32
  let v606 : BitVec 32 := Scalar.muli v4 c1_i32_447
  let v607 : BitVec 32 := Scalar.addi c0_i32_448 v606
  v607.toNat
def k0_dev14 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_483 : BitVec 32 := 1#32
  let v638 : BitVec 32 := Scalar.muli v3 c1_i32_483
  let v639 : BitVec 32 := Scalar.addi c0_i32_484 v638
  v639.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x2048 : Shape := ⟨2, ![768, 2048]⟩
abbrev S2048x768 : Shape := ⟨2, ![2048, 768]⟩
abbrev S2x512x32x64 : Shape := ⟨4, ![2, 512, 32, 64]⟩
abbrev S2x256x2048 : Shape := ⟨3, ![2, 256, 2048]⟩
abbrev S2x256x32x64 : Shape := ⟨4, ![2, 256, 32, 64]⟩
abbrev S2x32x256x512 : Shape := ⟨4, ![2, 32, 256, 512]⟩
abbrev S_ : Shape := ⟨0, ![]⟩
abbrev S2x32x256 : Shape := ⟨3, ![2, 32, 256]⟩
abbrev S2x32x256x1 : Shape := ⟨4, ![2, 32, 256, 1]⟩
abbrev S2x32x64x256 : Shape := ⟨4, ![2, 32, 64, 256]⟩
abbrev S2x256x32x1 : Shape := ⟨4, ![2, 256, 32, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x2048, .bf16⟩
  | .hbm, ⟨2, _⟩ => ⟨S2048x768, .bf16⟩
  | .hbm, ⟨3, _⟩ => ⟨S2x512x32x64, .bf16⟩
  | .hbm, ⟨4, _⟩ => ⟨S2x512x32x64, .bf16⟩
  | .hbm, ⟨5, _⟩ => ⟨S2x256x768, .f32⟩
  | .hbm, ⟨6, _⟩ => ⟨S768x2048, .f32⟩
  | .hbm, ⟨7, _⟩ => ⟨S2048x768, .f32⟩
  | .hbm, ⟨8, _⟩ => ⟨S2x512x32x64, .f32⟩
  | .hbm, ⟨9, _⟩ => ⟨S2x512x32x64, .f32⟩
  | .hbm, ⟨10, _⟩ => ⟨S2x256x2048, .f32⟩
  | .hbm, ⟨11, _⟩ => ⟨S2x256x32x64, .f32⟩
  | .hbm, ⟨12, _⟩ => ⟨S2x32x256x512, .f32⟩
  | .hbm, ⟨13, _⟩ => ⟨S_, .f32⟩
  | .hbm, ⟨14, _⟩ => ⟨S2x32x256x512, .f32⟩
  | .hbm, ⟨15, _⟩ => ⟨S2x32x256x512, .f32⟩
  | .hbm, ⟨16, _⟩ => ⟨S_, .f32⟩
  | .hbm, ⟨17, _⟩ => ⟨S2x32x256, .f32⟩
  | .hbm, ⟨18, _⟩ => ⟨S2x32x256x1, .f32⟩
  | .hbm, ⟨19, _⟩ => ⟨S2x32x256x512, .f32⟩
  | .hbm, ⟨20, _⟩ => ⟨S2x32x256x512, .f32⟩
  | .hbm, ⟨21, _⟩ => ⟨S2x32x256x512, .f32⟩
  | .hbm, ⟨22, _⟩ => ⟨S_, .f32⟩
  | .hbm, ⟨23, _⟩ => ⟨S2x32x256, .f32⟩
  | .hbm, ⟨24, _⟩ => ⟨S2x32x256x1, .f32⟩
  | .hbm, ⟨25, _⟩ => ⟨S2x32x64x256, .f32⟩
  | .hbm, ⟨26, _⟩ => ⟨S2x256x32x64, .f32⟩
  | .hbm, ⟨27, _⟩ => ⟨S2x256x32x1, .f32⟩
  | .hbm, ⟨28, _⟩ => ⟨S2x256x32x64, .f32⟩
  | .hbm, ⟨29, _⟩ => ⟨S2x256x32x64, .f32⟩
  | .hbm, ⟨30, _⟩ => ⟨S2x256x2048, .f32⟩
  | .hbm, ⟨31, _⟩ => ⟨S2x256x768, .f32⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Protocol.lean ====
/-
  The protocol of the kernel's four devices.

  A device sends twelve partial sums, one per SLOT: four slots of 384 columns (`.inl i`) and eight of 192 columns (`.inr j`).
  Each slot has a send buffer, a receive buffer of the same shape, a send cell and a receive cell, and each is used once.
  A slot goes to one of two peers (`link`): `pr c false` or `pr c true`; both maps are involutions, so what device `c`
  receives in slot `s` is what `pr c (link s)` sent from its slot `s`.

  Before the first transfer a device signals both peers' barrier cells and waits for both: the signal to `pr c l` hands
  over `c`'s receive buffers of the slots on link `l`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Pipeline.Kit
public import Idealize.ShloMosaic.Lib.Pipeline.FrameBody
public import Idealize.ShloMosaic.Lib.Writes
public import Idealize.ShloMosaic.Lib.Tactic

@[expose] public section

noncomputable section

namespace Cert.CrossAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resource algebra: the pipeline library's copy and the exchange's (duties named by a link) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers and slots -/

set_option backward.proofsInPublic true in
/-- The peer of device `c` on a link: `c` with its low bit flipped, or `3 - c`. -/
def pr (c : Dev nD) (l : Bool) : Dev nD :=
  if l then ⟨3 - c.val, by show 3 - c.val < 4; omega⟩
  else ⟨c.val + 1 - 2 * (c.val % 2), by have h : c.val < 4 := c.isLt; show c.val + 1 - 2 * (c.val % 2) < 4; omega⟩

theorem pr_pr (c : Dev nD) (l : Bool) : pr (pr c l) l = c := by revert c l; decide

/-- The kernel's `device_id` chains. -/
theorem dev1_eq (c : Dev nD) : (⟨k0_dev1 c, k0_dev1_lt c⟩ : Dev nD) = pr c false := by revert c; decide +kernel
theorem dev2_eq (c : Dev nD) : (⟨k0_dev2 c, k0_dev2_lt c⟩ : Dev nD) = pr c true := by revert c; decide +kernel
theorem dev3_eq (c : Dev nD) : (⟨k0_dev3 c, k0_dev3_lt c⟩ : Dev nD) = pr c false := by revert c; decide +kernel
theorem dev4_eq (c : Dev nD) : (⟨k0_dev4 c, k0_dev4_lt c⟩ : Dev nD) = pr c true := by revert c; decide +kernel
theorem dev5_eq (c : Dev nD) : (⟨k0_dev5 c, k0_dev5_lt c⟩ : Dev nD) = pr c true := by revert c; decide +kernel
theorem dev6_eq (c : Dev nD) : (⟨k0_dev6 c, k0_dev6_lt c⟩ : Dev nD) = pr c false := by revert c; decide +kernel
theorem dev7_eq (c : Dev nD) : (⟨k0_dev7 c, k0_dev7_lt c⟩ : Dev nD) = pr c false := by revert c; decide +kernel
theorem dev8_eq (c : Dev nD) : (⟨k0_dev8 c, k0_dev8_lt c⟩ : Dev nD) = pr c true := by revert c; decide +kernel
theorem dev9_eq (c : Dev nD) : (⟨k0_dev9 c, k0_dev9_lt c⟩ : Dev nD) = pr c false := by revert c; decide +kernel
theorem dev10_eq (c : Dev nD) : (⟨k0_dev10 c, k0_dev10_lt c⟩ : Dev nD) = pr c true := by revert c; decide +kernel
theorem dev11_eq (c : Dev nD) : (⟨k0_dev11 c, k0_dev11_lt c⟩ : Dev nD) = pr c true := by revert c; decide +kernel
theorem dev12_eq (c : Dev nD) : (⟨k0_dev12 c, k0_dev12_lt c⟩ : Dev nD) = pr c false := by revert c; decide +kernel
theorem dev13_eq (c : Dev nD) : (⟨k0_dev13 c, k0_dev13_lt c⟩ : Dev nD) = pr c true := by revert c; decide +kernel
theorem dev14_eq (c : Dev nD) : (⟨k0_dev14 c, k0_dev14_lt c⟩ : Dev nD) = pr c false := by revert c; decide +kernel

/-- The slots: four of 384 columns, eight of 192. -/
abbrev Slot : Type := Fin 4 ⊕ Fin 8

/-- The link a slot's transfer goes over. -/
def link : Slot → Bool
  | .inl i => i.val == 1 || i.val == 2
  | .inr j => if j.val < 4 then j.val % 2 == 1 else j.val % 2 == 0

/-- The order in which the transfers are started. -/
def ord : Slot → ℕ
  | .inl i => i.val
  | .inr j => 4 + j.val

/-- The slots in that order. -/
def slots : List Slot :=
  [.inl 0, .inl 1, .inl 2, .inl 3, .inr 0, .inr 1, .inr 2, .inr 3, .inr 4, .inr 5, .inr 6, .inr 7]

theorem slots_ord (s : Slot) : slots[ord s]? = some s := by revert s; decide

/-- The six slots of a link. -/
def six : Bool → Finset Slot
  | l => Finset.univ.filter fun s => link s = l

/-! ## The buffers and cells of a slot -/

abbrev shS : Slot → Shape
  | .inl _ => S1x256x384
  | .inr _ => S1x256x192
abbrev sqS : Slot → Shape
  | .inl _ => S256x384
  | .inr _ => S256x192

theorem inbH (i : Fin 4) : ∀ a, (![i.val, 0, 0] : Fin 3 → Nat) a + S1x256x384.size a ≤ S4x256x384.size a := by revert i; decide
theorem inbQ (j : Fin 8) : ∀ a, (![j.val, 0, 0] : Fin 3 → Nat) a + S1x256x192.size a ≤ S8x256x192.size a := by revert j; decide
theorem inbSH (i : Fin 4) : ∀ a, (![i.val] : Fin 1 → Nat) a + S1.size a ≤ S4.size a := by revert i; decide
theorem inbSQ (j : Fin 8) : ∀ a, (![j.val] : Fin 1 → Nat) a + S1.size a ≤ S8.size a := by revert j; decide

abbrev rH (i : Fin 4) : Rect S4x256x384 := Rect.unit (s := S4x256x384) ![i.val, 0, 0] S1x256x384.size (inbH i)
abbrev rQ (j : Fin 8) : Rect S8x256x192 := Rect.unit (s := S8x256x192) ![j.val, 0, 0] S1x256x192.size (inbQ j)

/-- A slot's send buffer and receive buffer, -/
abbrev sndM : (s : Slot) → Memref sig .tc .vmem (shS s) .bf16
  | .inl i => (Memref.whole cc0_scratch0 : Memref sig .tc .vmem S4x256x384 .bf16).slice (rH i) (fun _ => rfl)
  | .inr j => (Memref.whole cc0_scratch2 : Memref sig .tc .vmem S8x256x192 .bf16).slice (rQ j) (fun _ => rfl)
abbrev rcvM : (s : Slot) → Memref sig .tc .vmem (shS s) .bf16
  | .inl i => (Memref.whole cc0_scratch1 : Memref sig .tc .vmem S4x256x384 .bf16).slice (rH i) (fun _ => rfl)
  | .inr j => (Memref.whole cc0_scratch3 : Memref sig .tc .vmem S8x256x192 .bf16).slice (rQ j) (fun _ => rfl)

theorem sqz : (s : Slot) → (shS s).Squeezes (sqS s)
  | .inl _ => squeezes_S1x256x384_S256x384
  | .inr _ => squeezes_S1x256x192_S256x192

/-- and as the transfer names them, without the axis of size one. -/
abbrev sndD (s : Slot) : Memref sig .tc .vmem (sqS s) .bf16 := (sndM s).squeeze (sqS s) (sqz s)
abbrev rcvD (s : Slot) : Memref sig .tc .vmem (sqS s) .bf16 := (rcvM s).squeeze (sqS s) (sqz s)

/-- A slot's send semaphore and receive semaphore. -/
abbrev sndS : Slot → DmaSem sig
  | .inl i => ((cc0_scratch5.slice (Rect.unit (s := S4) ![i.val] S1.size (inbSH i))).squeeze S_ squeezes_S1_S_).sem
  | .inr j => ((cc0_scratch7.slice (Rect.unit (s := S8) ![j.val] S1.size (inbSQ j))).squeeze S_ squeezes_S1_S_).sem
abbrev rcvS : Slot → DmaSem sig
  | .inl i => ((cc0_scratch6.slice (Rect.unit (s := S4) ![i.val] S1.size (inbSH i))).squeeze S_ squeezes_S1_S_).sem
  | .inr j => ((cc0_scratch8.slice (Rect.unit (s := S8) ![j.val] S1.size (inbSQ j))).squeeze S_ squeezes_S1_S_).sem

/-- The barrier semaphore. -/
abbrev barS : Sem sig := (SemArray.scalar (sig.barrier 0 rfl) : Sems sig S_).sem

abbrev barCell (c : Dev nD) : GSem nD τ sig := ((c : Thread nD τ), .reg barS)
abbrev sndCell (c : Dev nD) (s : Slot) : GSem nD τ sig := ((c : Thread nD τ), .dma (sndS s))
abbrev rcvCell (c : Dev nD) (s : Slot) : GSem nD τ sig := ((c : Thread nD τ), .dma (rcvS s))

/-- Which slot and side a DMA semaphore belongs to (`false` the send side). -/
def roleNo : ℕ → Option (Bool × Slot)
  | 6 => some (false, .inl 0) | 7 => some (false, .inl 1) | 8 => some (false, .inl 2) | 9 => some (false, .inl 3)
  | 10 => some (true, .inl 0) | 11 => some (true, .inl 1) | 12 => some (true, .inl 2) | 13 => some (true, .inl 3)
  | 14 => some (false, .inr 0) | 15 => some (false, .inr 1) | 16 => some (false, .inr 2) | 17 => some (false, .inr 3)
  | 18 => some (false, .inr 4) | 19 => some (false, .inr 5) | 20 => some (false, .inr 6) | 21 => some (false, .inr 7)
  | 22 => some (true, .inr 0) | 23 => some (true, .inr 1) | 24 => some (true, .inr 2) | 25 => some (true, .inr 3)
  | 26 => some (true, .inr 4) | 27 => some (true, .inr 5) | 28 => some (true, .inr 6) | 29 => some (true, .inr 7)
  | _ => none
def role (k : DmaSem sig) : Option (Bool × Slot) := roleNo k.val

theorem role_snd (s : Slot) : role (sndS s) = some (false, s) := by revert s; decide
theorem role_rcv (s : Slot) : role (rcvS s) = some (true, s) := by revert s; decide

/-- What a slot's transfer credits. -/
def N (s : Slot) : ℕ := (rcvD s).view.dmaCredit
theorem N_pos (s : Slot) : 0 < N s := by
  cases s with
  | inl i => exact View.dmaCredit_pos _ (show 0 < S256x384.numel by decide)
  | inr j => exact View.dmaCredit_pos _ (show 0 < S256x192.numel by decide)

/-! ## Holding a slot -/

/-- A buffer of core `c` seen through `M`, reading `v`; -/
def at_ {sp : Space} {s : Shape} {e : EltTy} (c : Dev nD) (M : Memref sig .tc sp s e) (v : s.Idx → Elt F e) : sProp 𝕄 :=
  iprop(∃ f, ⌜M.view.read (Elt F) f = v⌝ ∗ (M.view.loc (c : Thread nD τ) ↦[M.view.set]{fullShare} f))
/-- at anything. -/
def any_ {sp : Space} {s : Shape} {e : EltTy} (c : Dev nD) (M : Memref sig .tc sp s e) : sProp 𝕄 :=
  iprop(∃ f : Buf (Elt F) (M.view.loc (c : Thread nD τ)), M.view.loc (c : Thread nD τ) ↦[M.view.set]{fullShare} f)

omit [FloatOps F] in
instance at_storable {sp : Space} {s : Shape} {e : EltTy} (c : Dev nD) (M : Memref sig .tc sp s e) (v : s.Idx → Elt F e) :
    BI.Storable (upEmb : UEmb _ 𝕄) (at_ c M v) := by unfold at_; infer_instance
omit [FloatOps F] in
instance any_storable {sp : Space} {s : Shape} {e : EltTy} (c : Dev nD) (M : Memref sig .tc sp s e) :
    BI.Storable (upEmb : UEmb _ 𝕄) (any_ (F := F) c M) := by unfold any_; infer_instance

omit [FloatOps F] in
theorem at_any {sp : Space} {s : Shape} {e : EltTy} (c : Dev nD) (M : Memref sig .tc sp s e) (v : s.Idx → Elt F e) :
    at_ c M v ⊢ any_ (F := F) c M := by
  unfold at_ any_
  iintro ⟨%f, -, H⟩; iexists f; iexact H

/-! ## The schedule, at whatever the devices send (`sv`) -/

variable (sv : Dev nD → (s : Slot) → (shS s).Idx → Elt F .bf16)

/-- What the peer's signal on link `l` hands device `c`: the peer's receive buffers of the link's slots, and that the peer
    is at round 0 of their receive cells. -/
def barPay (c : Dev nD) (l : Bool) : sProp 𝕄 :=
  bigSep (six l) fun s => iprop(any_ (F := F) (pr c l) (rcvM s) ∗ reached ER (rcvCell (pr c l) s) 0)
def sndPay (c : Dev nD) (s : Slot) : sProp 𝕄 := at_ c (sndM s) (sv c s)
def rcvPay (c : Dev nD) (s : Slot) : sProp 𝕄 := at_ c (rcvM s) (sv (pr c (link s)) s)

def Rd : Rounds.Schedule (GSem nD τ sig) Bool 𝕄 where
  duties g r := if r = 0 ∧ g.1.2 = .tc then
    (match g.2 with
      | .reg _ => Finset.univ
      | .dma k => match role k with | some _ => {false} | none => ∅) else ∅
  unitless _ := False
  amount g _ _ := match g.2 with
    | .reg _ => 1
    | .dma k => match role k with | some (_, s) => N s | none => 1
  payload g _ d := match g.2 with
    | .reg _ => barPay g.1.1 d
    | .dma k => match role k with
      | some (false, s) => sndPay sv g.1.1 s
      | some (true, s) => rcvPay sv g.1.1 s
      | none => iprop(emp)
  amount_pos g _ _ _ := by
    (repeat' split) <;> first | exact Nat.one_pos | exact N_pos _

omit [FloatOps F] in
instance barPay_storable (c : Dev nD) (l : Bool) : BI.Storable (upEmb : UEmb _ 𝕄) (barPay (F := F) c l) := by
  unfold barPay; infer_instance

omit [FloatOps F] in
instance Rd_payload_storable (g : GSem nD τ sig) (r : ℕ) (d : Bool) :
    BI.Storable (upEmb : UEmb _ 𝕄) ((Rd (F := F) sv).payload g r d) := by
  unfold Rd sndPay rcvPay
  dsimp only
  (repeat' split) <;> infer_instance

section Sched
variable (c : Dev nD) (s : Slot)

omit [FloatOps F] in
theorem duties_bar : (Rd (F := F) sv).duties (barCell c) 0 = Finset.univ := by dsimp only [Rd]; exact if_pos ⟨rfl, rfl⟩
omit [FloatOps F] in
theorem duties_snd : (Rd (F := F) sv).duties (sndCell c s) 0 = {false} := by
  dsimp only [Rd]; rw [role_snd]; exact if_pos ⟨rfl, rfl⟩
omit [FloatOps F] in
theorem duties_rcv : (Rd (F := F) sv).duties (rcvCell c s) 0 = {false} := by
  dsimp only [Rd]; rw [role_rcv]; exact if_pos ⟨rfl, rfl⟩
omit [FloatOps F] in
theorem duties_later (g : GSem nD τ sig) : ∀ r, 1 ≤ r → (Rd (F := F) sv).duties g r = ∅ :=
  fun r hr => by dsimp only [Rd]; exact if_neg fun h => by omega

omit [FloatOps F] in
theorem amount_bar (d : Bool) : (Rd (F := F) sv).amount (barCell c) 0 d = 1 := rfl
omit [FloatOps F] in
theorem amount_snd (d : Bool) : (Rd (F := F) sv).amount (sndCell c s) 0 d = N s := by dsimp only [Rd]; rw [role_snd]
omit [FloatOps F] in
theorem amount_rcv (d : Bool) : (Rd (F := F) sv).amount (rcvCell c s) 0 d = N s := by dsimp only [Rd]; rw [role_rcv]

omit [FloatOps F] in
theorem expect_bar : (Rd (F := F) sv).expect (barCell c) 0 = 2 := by
  unfold Schedule.expect Schedule.amountOf; rw [duties_bar]; rfl
omit [FloatOps F] in
theorem expect_snd : (Rd (F := F) sv).expect (sndCell c s) 0 = N s := by
  unfold Schedule.expect Schedule.amountOf; rw [duties_snd, Finset.sum_singleton, amount_snd]
omit [FloatOps F] in
theorem expect_rcv : (Rd (F := F) sv).expect (rcvCell c s) 0 = N s := by
  unfold Schedule.expect Schedule.amountOf; rw [duties_rcv, Finset.sum_singleton, amount_rcv]

omit [FloatOps F] in
theorem payload_bar (d : Bool) : (Rd (F := F) sv).payload (barCell c) 0 d = barPay c d := rfl
omit [FloatOps F] in
theorem payload_snd (d : Bool) : (Rd (F := F) sv).payload (sndCell c s) 0 d = sndPay sv c s := by
  dsimp only [Rd]; rw [role_snd]
omit [FloatOps F] in
theorem payload_rcv (d : Bool) : (Rd (F := F) sv).payload (rcvCell c s) 0 d = rcvPay sv c s := by
  dsimp only [Rd]; rw [role_rcv]

omit [FloatOps F] in
theorem rest_snd : bigSep ((Rd (F := F) sv).duties (sndCell c s) 0 \ ∅) (fun u => (Rd (F := F) sv).payload (sndCell c s) 0 u) = sndPay sv c s := by
  rw [Finset.sdiff_empty, duties_snd, bigSep_singleton, payload_snd]
omit [FloatOps F] in
theorem rest_rcv : bigSep ((Rd (F := F) sv).duties (rcvCell c s) 0 \ ∅) (fun u => (Rd (F := F) sv).payload (rcvCell c s) 0 u) = rcvPay sv c s := by
  rw [Finset.sdiff_empty, duties_rcv, bigSep_singleton, payload_rcv]

end Sched

/-! ## What a device owes; the levels -/

/-- The credit device `c` owes its peer's receive cell for one slot; -/
def due1 (c : Dev nD) (s : Slot) : CellTallies nD τ sig Unit := tallyAt (rcvCell (pr c (link s)) s) () (N s)
/-- for all slots from the `n`-th on. -/
def due (c : Dev nD) (n : ℕ) : CellTallies nD τ sig Unit := ((slots.drop n).map (due1 c)).sum

theorem due_step (c : Dev nD) (s : Slot) : due c (ord s) = due c (ord s + 1) + due1 c s := by
  have h : slots.drop (ord s) = s :: slots.drop (ord s + 1) := by revert s; decide
  unfold due; rw [h, List.map_cons, List.sum_cons, add_comm]
theorem due_end (c : Dev nD) : due c 12 = 0 := rfl

/-- At launch: every slot's credit and one unit of each peer's barrier cell. -/
def O₀ (c : Dev nD) : CellTallies nD τ sig Unit :=
  (due c 0 + tallyAt (barCell (pr c true)) () 1) + tallyAt (barCell (pr c false)) () 1

def L (g : GSem nD τ sig) : Finset Unit := if g.1.2 = .tc then {()} else ∅
/-- Send cells at 0, barrier cells at 1, the receive cell of the `n`-th slot at `2 + n`. -/
def lv (g : GSem nD τ sig) (_ : Unit) : ℕ := match g.2 with
  | .reg _ => 1
  | .dma k => match role k with
    | some (true, s) => 2 + ord s
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_snd (c : Dev nD) (s : Slot) : lv (sndCell c s) () = 0 := by dsimp only [lv]; rw [role_snd]
theorem lv_rcv (c : Dev nD) (s : Slot) : lv (rcvCell c s) () = 2 + ord s := by dsimp only [lv]; rw [role_rcv]

/-- A cell something is owed to among the slots from the `n`-th on is a receive cell of such a slot. -/
theorem due_pos {c : Dev nD} {n : ℕ} {g : GSem nD τ sig} {u : Unit} (h : 0 < due c n g u) :
    ∃ (s : Slot), n ≤ ord s ∧ g = rcvCell (pr c (link s)) s := by
  unfold due at h
  have key : ∀ l : List Slot, 0 < ((l.map (due1 c)).sum) g u → ∃ s ∈ l, g = rcvCell (pr c (link s)) s := by
    intro l
    induction l with
    | nil => intro h; exact absurd h (Nat.lt_irrefl 0)
    | cons a l ih =>
      intro h
      rw [List.map_cons, List.sum_cons] at h
      by_cases ha : g = rcvCell (pr c (link a)) a
      · exact ⟨a, List.mem_cons_self, ha⟩
      · have h0 : due1 c a g u = 0 := by
          unfold due1; rw [tallyAt_apply]; exact if_neg fun h => ha h.1
        have : (due1 c a + (l.map (due1 c)).sum) g u = due1 c a g u + ((l.map (due1 c)).sum) g u := rfl
        rw [this, h0, Nat.zero_add] at h
        obtain ⟨s, hs, he⟩ := ih h
        exact ⟨s, List.mem_cons_of_mem _ hs, he⟩
  obtain ⟨s, hs, he⟩ := key _ h
  refine ⟨s, ?_, he⟩
  obtain ⟨i, hi, rfl⟩ := List.getElem_of_mem hs
  rw [List.getElem_drop]
  have hn : ∀ k (hk : k < slots.length), ord slots[k] = k := by decide
  rw [hn]; omega

omit [FloatOps F] in
/-- A core may wait on a cell below the receive cells of the slots it still owes. -/
theorem mayWait (c : Dev nD) (sm : SemLoc sig) (n : ℕ) (b : ℕ) (hb : lv ((c : Thread nD τ), sm) () ≤ b) (hn : b < 2 + n) :
    (levAts L lv : sProp 𝕄) ⊢ MayWait (c : Thread nD τ) sm () (due c n) :=
  MayOwe.of_cut (L := L) (lev := lv) b
    (fun p hp => by rw [Finset.mem_singleton.mp hp, L_tc]; exact Finset.mem_singleton_self _)
    (fun g u hg => by
      obtain ⟨s, -, rfl⟩ := due_pos hg
      rw [L_tc]; exact Finset.mem_singleton_self _)
    (fun p hp => by rw [Finset.mem_singleton.mp hp]; exact hb)
    (fun g u hg => by
      obtain ⟨s, hs, rfl⟩ := due_pos hg
      rw [show u = () from rfl, lv_rcv]; omega)

end Cert.CrossAttn

end
-- ==== Proof.Steps.lean ====
/-
  One rule per kind of step the kernel takes: a load, a store, a transfer started, a wait for it, each in the terms of
  `Protocol.lean` (a buffer seen through a memref, a slot).
-/
module

public import proofs.«01_k».proof.Proof.Protocol

@[expose] public section

noncomputable section

namespace Cert.CrossAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- The kernel's variants: none. -/
abbrev 𝒱₀ : Variants := Variants.none

/-- The weakest precondition of a piece of device `c`'s body. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem Wp_ret (c : Dev nD) {α : Type} {Q : α → sProp 𝕄} (a : α) : Q a ⊢ Wp c (.ret a) Q := by
  unfold Wp
  rw [wp_ret]
  iintro H
  imodintro
  iexact H

theorem Wp_ret_eq (c : Dev nD) {α : Type} {Q : α → sProp 𝕄} {a b : α} : ⊢ iprop(⌜b = a⌝ -∗ Q a -∗ Wp c (.ret b) Q) := by
  iintro %h H
  subst h
  iapply (Wp_ret c); iexact H

/-! ## Loads and stores -/

section Mem
variable (c : Dev nD) {s : Shape} {e : EltTy}

/-- A load of a part of a buffer holding `v`. -/
theorem load_at {α : Type} {Q : α → sProp 𝕄} {m : Memref sig .tc .vmem s e} {r : Rect s} {hl : m.view.LoadsAt r.toLoadRect} (v : s.Idx → Elt F e)
    {k : (r.shape.Idx → Elt F e) → Prog (TpuEff nD τ sig (Elt F) Λ₀ .tc) α} :
    at_ c m v ⊢ iprop((at_ c m v -∗ Wp c (k fun x => v (r.emb x)) Q) -∗ Wp c (.op (.load m r.toLoadRect hl) k) Q) := by
  unfold at_
  iintro ⟨%f, %hf, H⟩ Hk
  iapply (wp_load_rect 𝒱₀ (c : Thread nD τ) none Set.univ (m := m) (r := r) (View.set_slice_subset _ _)) $$ H
  iintro H
  have h : (m.access r).read (Elt F) f = fun x => v (r.emb x) := by rw [← hf]; rfl
  rw [h]
  iapply Hk
  iexists f
  isplitr
  · ipureintro; exact hf
  · iexact H

/-- A load of a slice held on its own, at `v` -/
theorem load_slice {α : Type} {Q : α → sProp 𝕄} {m : Memref sig .tc .vmem s e} {r : Rect s} {hr : ∀ a, r.stride a = 1} {hl : m.view.LoadsAt r.toLoadRect}
    (v : r.shape.Idx → Elt F e) {k : (r.shape.Idx → Elt F e) → Prog (TpuEff nD τ sig (Elt F) Λ₀ .tc) α} :
    at_ c (m.slice r hr) v ⊢ iprop((at_ c (m.slice r hr) v -∗ Wp c (k v) Q) -∗ Wp c (.op (.load m r.toLoadRect hl) k) Q) := by
  unfold at_
  iintro ⟨%f, %hf, H⟩ Hk
  iapply (wp_load_rect 𝒱₀ (c : Thread nD τ) none Set.univ (m := m) (r := r) (S := (m.slice r hr).view.set) (f := f) subset_rfl) $$ H
  iintro H
  have h : (m.access r).read (Elt F) f = v := hf
  rw [h]
  iapply Hk
  iexists f
  isplitr
  · ipureintro; exact hf
  · iexact H

/-- or at anything. -/
theorem load_any {α : Type} {Q : α → sProp 𝕄} {m : Memref sig .tc .vmem s e} {r : Rect s} {hr : ∀ a, r.stride a = 1} {hl : m.view.LoadsAt r.toLoadRect}
    {k : (r.shape.Idx → Elt F e) → Prog (TpuEff nD τ sig (Elt F) Λ₀ .tc) α} :
    any_ c (m.slice r hr) ⊢ iprop((∀ v, any_ c (m.slice r hr) -∗ Wp c (k v) Q) -∗ Wp c (.op (.load m r.toLoadRect hl) k) Q) := by
  unfold any_
  iintro ⟨%f, H⟩ Hk
  iapply (wp_load_rect 𝒱₀ (c : Thread nD τ) none Set.univ (m := m) (r := r) (S := (m.slice r hr).view.set) (f := f) subset_rfl) $$ H
  iintro H
  ispecialize Hk $$ %((m.access r).read (Elt F) f)
  iapply Hk
  iexists f
  iexact H

/-- A store of a slice held on its own. -/
theorem store_slice {α : Type} {Q : α → sProp 𝕄} {m : Memref sig .tc .vmem s e} {r : Rect s} {hr : ∀ a, r.stride a = 1} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} :
    any_ c (m.slice r hr) ⊢ iprop((at_ c (m.slice r hr) w -∗ Wp c (k ⟨⟩) Q) -∗ Wp c (.op (.store m r w Finset.univ hx hm) k) Q) := by
  unfold any_ at_
  iintro ⟨%f, H⟩ Hk
  iapply (wp_store 𝒱₀ (c : Thread nD τ) none Set.univ (m := m) (r := r) (S := (m.slice r hr).view.set) (f := f) subset_rfl) $$ H
  iintro H
  iapply Hk
  iexists ((m.access r).write (Elt F) f w Finset.univ)
  isplitr
  · ipureintro; exact View.read_write_univ (v := m.access r) f w
  · iexact H

/-- A buffer holding `v` at the elements of `D`. -/
def part (m : Memref sig .tc .vmem s e) (D : s.Idx → Prop) (v : s.Idx → Elt F e) : sProp 𝕄 :=
  iprop(∃ f, ⌜∀ i, D i → m.view.read (Elt F) f i = v i⌝ ∗ (m.view.loc (c : Thread nD τ) ↦[m.view.set]{fullShare} f))

omit [FloatOps F] in
theorem part_of_any {m : Memref sig .tc .vmem s e} {D : s.Idx → Prop} (v : s.Idx → Elt F e) (hD : ∀ i, ¬ D i) :
    any_ c m ⊢ part c m D v := by
  unfold any_ part
  iintro ⟨%f, H⟩
  iexists f
  isplitr
  · ipureintro; exact fun i h => absurd h (hD i)
  · iexact H

omit [FloatOps F] in
theorem part_anew {m : Memref sig .tc .vmem s e} {D D' : s.Idx → Prop} {v : s.Idx → Elt F e} (v' : s.Idx → Elt F e) (hD : ∀ i, ¬ D' i) :
    part c m D v ⊢ part c m D' v' := by
  unfold part
  iintro ⟨%f, -, H⟩
  iexists f
  isplitr
  · ipureintro; exact fun i h => absurd h (hD i)
  · iexact H

omit [FloatOps F] in
theorem part_all {m : Memref sig .tc .vmem s e} {D : s.Idx → Prop} {v : s.Idx → Elt F e} (hD : ∀ i, D i) :
    part c m D v ⊢ at_ c m v := by
  unfold part at_
  iintro ⟨%f, %hf, H⟩
  iexists f
  isplitr
  · ipureintro; exact funext fun i => hf i (hD i)
  · iexact H

/-- A load whose result is not used, -/
theorem load_part_any {α : Type} {Q : α → sProp 𝕄} {m : Memref sig .tc .vmem s e} {r : Rect s} {hl : m.view.LoadsAt r.toLoadRect} {D : s.Idx → Prop} {v : s.Idx → Elt F e}
    {k : (r.shape.Idx → Elt F e) → Prog (TpuEff nD τ sig (Elt F) Λ₀ .tc) α} :
    part c m D v ⊢ iprop((∀ w, part c m D v -∗ Wp c (k w) Q) -∗ Wp c (.op (.load m r.toLoadRect hl) k) Q) := by
  unfold part
  iintro ⟨%f, %hf, H⟩ Hk
  iapply (wp_load_rect 𝒱₀ (c : Thread nD τ) none Set.univ (m := m) (r := r) (View.set_slice_subset _ _)) $$ H
  iintro H
  ispecialize Hk $$ %((m.access r).read (Elt F) f)
  iapply Hk
  iexists f
  isplitr
  · ipureintro; exact hf
  · iexact H

/-- a load of elements of `D`, -/
theorem load_part {α : Type} {Q : α → sProp 𝕄} {m : Memref sig .tc .vmem s e} {r : Rect s} {hl : m.view.LoadsAt r.toLoadRect} {D : s.Idx → Prop} {v : s.Idx → Elt F e}
    (hr : ∀ x, D (r.emb x))
    {k : (r.shape.Idx → Elt F e) → Prog (TpuEff nD τ sig (Elt F) Λ₀ .tc) α} :
    part c m D v ⊢ iprop((part c m D v -∗ Wp c (k fun x => v (r.emb x)) Q) -∗ Wp c (.op (.load m r.toLoadRect hl) k) Q) := by
  unfold part
  iintro ⟨%f, %hf, H⟩ Hk
  iapply (wp_load_rect 𝒱₀ (c : Thread nD τ) none Set.univ (m := m) (r := r) (View.set_slice_subset _ _)) $$ H
  iintro H
  have h : (m.access r).read (Elt F) f = fun x => v (r.emb x) := funext fun x => hf _ (hr x)
  rw [h]
  iapply Hk
  iexists f
  isplitr
  · ipureintro; exact hf
  · iexact H

/-- and a store that adds the elements of `r` to `D`. -/
theorem store_part {α : Type} {Q : α → sProp 𝕄} {m : Memref sig .tc .vmem s e} {r : Rect s} {w : r.shape.Idx → Elt F e}
    {hx : (m.access r).Stores Finset.univ} {hm : (Finset.univ : Finset r.shape.Idx) = Finset.univ ∨ ∀ a, r.stride a = 1}
    {D : s.Idx → Prop} {v : s.Idx → Elt F e} (D' : s.Idx → Prop) (hw : ∀ x, w x = v (r.emb x)) (hD : ∀ i, D' i → i ∈ r.set ∨ D i)
    {k : PUnit → Prog (TpuEff nD τ sig (Elt F) Λ₀ .tc) α} :
    part c m D v ⊢ iprop((part c m D' v -∗ Wp c (k ⟨⟩) Q) -∗ Wp c (.op (.store m r w Finset.univ hx hm) k) Q) := by
  unfold part
  iintro ⟨%f, %hf, H⟩ Hk
  iapply (wp_store 𝒱₀ (c : Thread nD τ) none Set.univ (m := m) (r := r) (View.set_slice_subset _ _)) $$ H
  iintro H
  iapply Hk
  iexists ((m.access r).write (Elt F) f w Finset.univ)
  isplitr
  · ipureintro
    intro i hi
    by_cases h : i ∈ r.set
    · rw [← Rect.map_emb_univ] at h
      obtain ⟨x, -, rfl⟩ := Finset.mem_map.mp h
      exact (View.read_slice_write_emb (v := m.view) r f w (Finset.mem_univ x)).trans (hw x)
    · refine (View.read_slice_write_of_not_mem (v := m.view) r f w Finset.univ ?_).trans (hf i ((hD i hi).resolve_left h))
      rw [Rect.map_emb_univ]; exact h
  · iexact H

end Mem

/-! ## Transfers -/

variable (sv : Dev nD → (s : Slot) → (shS s).Idx → Elt F .bf16)

/-- The names of the cells' invariants. -/
abbrev Names : Type := Dev nD × Option (Bool × Slot) → ℕ

/-- The invariants of all the cells, and the level facts: persistent, at hand throughout. -/
def env (K : Names) : sProp 𝕄 :=
  iprop((∀ c : Dev nD, cellInv ER (Rd sv) (K (c, none)) (barCell c))
    ∗ (∀ c : Dev nD, ∀ s : Slot, cellInv ER (Rd sv) (K (c, some (false, s))) (sndCell c s))
    ∗ (∀ c : Dev nD, ∀ s : Slot, cellInv ER (Rd sv) (K (c, some (true, s))) (rcvCell c s))
    ∗ levAts L lv)

instance env_persistent (K : Names) : BI.Persistent (env (F := F) sv K) := by unfold env; infer_instance

section Slots
variable (K : Names) (c : Dev nD) (s : Slot)

/-- Before a slot's transfer: the tokens of the two duties it pays, the peer's receive buffer, the marks that both cells are
    at round 0, and for what comes in: the positions on its own two cells and the credit of its receive cell. -/
def tok0 : sProp 𝕄 :=
  iprop(dutyTok ER (sndCell c s) 0 false ∗ dutyTok ER (rcvCell (pr c (link s)) s) 0 false
    ∗ any_ (F := F) (pr c (link s)) (rcvM s) ∗ reached ER (sndCell c s) 0 ∗ reached ER (rcvCell (pr c (link s)) s) 0
    ∗ atPos ER (sndCell c s) 0 ∅ 0 ∗ atPos ER (rcvCell c s) 0 ∅ 0 ∗ cred (tallyAt (rcvCell c s) () (N s)))
/-- With the send buffer at anything; -/
def sl0 : sProp 𝕄 := iprop(any_ (F := F) c (sndM s) ∗ tok0 c s)
/-- with what is to be sent; -/
def sl1 : sProp 𝕄 := iprop(at_ c (sndM s) (sv c s) ∗ tok0 c s)
/-- the transfer under way; -/
def sl2 : sProp 𝕄 :=
  iprop(cred (tallyAt (sndCell c s) () (N s)) ∗ atPos ER (sndCell c s) 0 ∅ 0 ∗ atPos ER (rcvCell c s) 0 ∅ 0
    ∗ cred (tallyAt (rcvCell c s) () (N s)))
/-- the send buffer back; -/
def sl3 : sProp 𝕄 :=
  iprop(at_ c (sndM s) (sv c s) ∗ atPos ER (sndCell c s) 1 ∅ 0 ∗ atPos ER (rcvCell c s) 0 ∅ 0 ∗ cred (tallyAt (rcvCell c s) () (N s)))
/-- and the receive buffer at what the peer sent. -/
def sl4 : sProp 𝕄 :=
  iprop(at_ c (sndM s) (sv c s) ∗ at_ c (rcvM s) (sv (pr c (link s)) s) ∗ atPos ER (sndCell c s) 1 ∅ 0 ∗ atPos ER (rcvCell c s) 1 ∅ 0)

/-- What device `c` still owes, from slot `n` on. -/
def owe (n : ℕ) : sProp 𝕄 := iprop(∃ W, owes (c : Thread nD τ) (due c n) W)

omit [FloatOps F] in
/-- What lands in a slot is what the source held. -/
theorem landed (c c' : Dev nD) (fs : Buf (Elt F) ((sndD s).view.loc (c : Thread nD τ))) (fd : Buf (Elt F) ((rcvD s).view.loc (c' : Thread nD τ)))
    (v : (shS s).Idx → Elt F .bf16) (h : (sndM s).view.read (Elt F) fs = v) :
    ((rcvD s).view.loc (c' : Thread nD τ) ↦[(rcvD s).view.set]{fullShare} ((rcvD s).view.write (Elt F) fd ((sndD s).view.read (Elt F) fs) Finset.univ) : sProp 𝕄)
      ⊢ at_ c' (rcvM s) v := by
  unfold at_
  have e : ((rcvD s).view.write (Elt F) fd ((sndD s).view.read (Elt F) fs) Finset.univ)
      = (rcvM s).view.write (Elt F) fd v Finset.univ := by
    refine (View.write_reshape_univ (v := (rcvM s).view) (Shape.Squeezes.numel_eq (sqz s)) fd _).trans ?_
    congr 1
    funext x
    rw [← h]
    show (sndM s).view.read (Elt F) fs (Shape.reshapeEquiv _ ((Shape.reshapeEquiv _).symm x)) = _
    rw [Equiv.apply_symm_apply]
  have hs : (rcvD s).view.set = (rcvM s).view.set := View.set_reshape _ _
  rw [e, hs]
  iintro H
  iexists ((rcvM s).view.write (Elt F) fd v Finset.univ)
  isplitr
  · ipureintro; exact View.read_write_univ _ _
  · iexact H

theorem setD_snd (s : Slot) : (sndD s).view.set = (sndM s).view.set := View.set_reshape _ _
theorem setD_rcv (s : Slot) : (rcvD s).view.set = (rcvM s).view.set := View.set_reshape _ _

/-- STARTING a slot's transfer, addressed to a device `n` that is the slot's peer. -/
theorem start_slot {α : Type} {Q : α → sProp 𝕄} (m : ℕ) (hm : ord s = m) (n : Dev nD) (hn : n = pr c (link s))
    {hsc : (rcvD s : Memref sig (Dev.tc n : Thread nD τ).2.kind .vmem (sqS s) .bf16).view.ref.isScScratch = false}
    {hsrc : (sndD s).view.WordExact} {hdst : (rcvD s).view.WordExact}
    {hsem : DmaTarget.Typed .vmem (.dma (rcvS s)) (.remote (Dev.tc n : Thread nD τ) (rcvD s : Memref sig .tc .vmem (sqS s) .bf16) (.dma (sndS s)) hsc)}
    {k : PUnit → Prog (TpuEff nD τ sig (Elt F) Λ₀ .tc) α} :
    env sv K ⊢ iprop(sl1 sv c s -∗ owe (F := F) c m -∗ ((sl2 c s ∗ owe (F := F) c (m + 1)) -∗ Wp c (k ⟨⟩) Q)
          -∗ Wp c (.op (.enqueueDma (sndD s) (.remote (Dev.tc n : Thread nD τ) (rcvD s) (.dma (sndS s)) hsc) (.dma (rcvS s)) hsrc hdst hsem) k) Q) := by
  subst hn hm
  unfold env sl1 tok0 at_ any_ owe
  iintro ⟨-, #HIs, #HIr, -⟩ ⟨⟨%fs, %hfs, Hs⟩, HtS, HtR, ⟨%fd, Hd⟩, #HrS, #HrR, HaS, HaR, HcR⟩ ⟨%W, HO⟩ Hk
  ispecialize HIs $$ %c %s
  ispecialize HIr $$ %(pr c (link s)) %s
  rw [← setD_snd s, ← setD_rcv s]
  iapply (Rounds.wp_send_pointsTo 𝒱₀ ER (Rd sv) (c : Thread nD τ) none (κ₁ := K (c, some (false, s))) (κ₂ := K (pr c (link s), some (true, s)))
    (c' := (pr c (link s) : Thread nD τ)) (src := sndD s) (dst := rcvD s)
    (r₁ := 0) (r₂ := 0) (d₁ := false) (d₂ := false) (fs := fs) (fd := fd)
    (by rw [duties_snd]; exact Finset.mem_singleton_self _) (by rw [duties_rcv]; exact Finset.mem_singleton_self _)
    () () (N s) rfl (amount_snd sv c s false) (amount_rcv sv (pr c (link s)) s false) (due c (ord s + 1)) (due_step c s) (W := W)
    (by rw [payload_snd]; unfold sndPay at_
        iintro H; iexists fs; isplitr
        · ipureintro; exact hfs
        · rw [← setD_snd s]; iexact H)
    (by rw [payload_rcv]; unfold rcvPay; rw [pr_pr]; exact landed s c (pr c (link s)) fs fd _ hfs)) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  unfold sl2
  isplitr [HO]
  · isplitl [HcS]; · iexact HcS
    isplitl [HaS]; · iexact HaS
    isplitl [HaR]; · iexact HaR
    iexact HcR
  · iexists W; iexact HO

/-- The WAIT on a slot's send cell. -/
theorem wait_snd {α : Type} {Q : α → sProp 𝕄} (n : ℕ) {src : Memref sig .tc .vmem (sqS s) .bf16} {hsrc : src.view.WordExact} {hdst : (sndD s).view.WordExact}
    {k : PUnit → Prog (TpuEff nD τ sig (Elt F) Λ₀ .tc) α} :
    env sv K ⊢ iprop(sl2 c s -∗ owe (F := F) c n -∗ ((sl3 sv c s ∗ owe (F := F) c n) -∗ Wp c (k ⟨⟩) Q)
          -∗ Wp c (.op (.waitDma2 (sndS s) src (sndD s) hsrc hdst) k) Q) := by
  have hN : (sndD s).view.dmaCredit = N s := by cases s <;> rfl
  unfold env sl2 owe
  iintro ⟨-, #HIs, -, #Hlev⟩ ⟨HcS, HaS, HaR, HcR⟩ ⟨%W, HO⟩ Hk
  ispecialize HIs $$ %c %s
  rw [← hN]
  iapply (Rounds.wp_wait_rest_token 𝒱₀ ER (Rd sv) (c : Thread nD τ) none (κ := K (c, some (false, s)))
      (wpE_waitDma2_eq 𝒱₀ (c : Thread nD τ) none Set.univ) (Set.mem_univ _) () (O := due c n) (W := W) (R := 0) (m := 0) (T := ∅)
      (by rw [Nat.zero_add, expect_snd, hN])) $$ [HcS HO HaS]
  · isplitr; · iexact HIs
    isplitl [HcS]; · iexact HcS
    isplitl [HO]; · iexact HO
    isplitr; · iapply (mayWait c (.dma (sndS s)) n 0 (le_of_eq (lv_snd c s)) (by omega)); iexact Hlev
    iexact HaS
  iintro ⟨HO, HaS, -, Hpay⟩
  ihave Hp := (Entails.of_eq (rest_snd sv c s)) $$ Hpay
  iapply Hk
  unfold sl3 sndPay
  isplitr [HO]
  · isplitl [Hp]; · iexact Hp
    isplitl [HaS]; · iexact HaS
    isplitl [HaR]; · iexact HaR
    rw [hN]; iexact HcR
  · iexists _; iexact HO

/-- The WAIT on a slot's receive cell, with only later slots' transfers still owed. -/
theorem wait_rcv {α : Type} {Q : α → sProp 𝕄} (n : ℕ) (hn : ord s < n) {src : Memref sig .tc .vmem (sqS s) .bf16} {hsrc : src.view.WordExact} {hdst : (rcvD s).view.WordExact}
    {k : PUnit → Prog (TpuEff nD τ sig (Elt F) Λ₀ .tc) α} :
    env sv K ⊢ iprop(sl3 sv c s -∗ owe (F := F) c n -∗ ((sl4 sv c s ∗ owe (F := F) c n) -∗ Wp c (k ⟨⟩) Q)
          -∗ Wp c (.op (.waitDma2 (rcvS s) src (rcvD s) hsrc hdst) k) Q) := by
  have hN : (rcvD s).view.dmaCredit = N s := rfl
  unfold env sl3 owe
  iintro ⟨-, -, #HIr, #Hlev⟩ ⟨Hs, HaS, HaR, HcR⟩ ⟨%W, HO⟩ Hk
  ispecialize HIr $$ %c %s
  rw [← hN]
  iapply (Rounds.wp_wait_rest_token 𝒱₀ ER (Rd sv) (c : Thread nD τ) none (κ := K (c, some (true, s)))
      (wpE_waitDma2_eq 𝒱₀ (c : Thread nD τ) none Set.univ) (Set.mem_univ _) () (O := due c n) (W := W) (R := 0) (m := 0) (T := ∅)
      (by rw [Nat.zero_add, expect_rcv, hN])) $$ [HcR HO HaR]
  · isplitr; · iexact HIr
    isplitl [HcR]; · iexact HcR
    isplitl [HO]; · iexact HO
    isplitr; · iapply (mayWait c (.dma (rcvS s)) n (2 + ord s) (le_of_eq (lv_rcv c s)) (by omega)); iexact Hlev
    iexact HaR
  iintro ⟨HO, HaR, -, Hpay⟩
  ihave Hp := (Entails.of_eq (rest_rcv sv c s)) $$ Hpay
  iapply Hk
  unfold sl4 rcvPay
  isplitr [HO]
  · isplitl [Hs]; · iexact Hs
    isplitl [Hp]; · iexact Hp
    isplitl [HaS]; · iexact HaS
    iexact HaR
  · iexists _; iexact HO

end Slots

/-! ## The slots' buffers, loaded and stored -/

section SlotMem
variable (c : Dev nD)

theorem loadS_H {α : Type} {Q : α → sProp 𝕄} (i : Fin 4) {hl} {k : ((rH i).shape.Idx → Elt F .bf16) → Prog (TpuEff nD τ sig (Elt F) Λ₀ .tc) α} :
    sl4 sv c (.inl i) ⊢ iprop((sl4 sv c (.inl i) -∗ Wp c (k (sv c (.inl i))) Q)
      -∗ Wp c (.op (.load (Memref.whole cc0_scratch0 : Memref sig .tc .vmem S4x256x384 .bf16) (rH i).toLoadRect hl) k) Q) := by
  unfold sl4
  iintro ⟨H, Hr⟩ Hk
  iapply (load_slice c (m := (Memref.whole cc0_scratch0 : Memref sig .tc .vmem S4x256x384 .bf16)) (r := rH i) (hr := fun _ => rfl) (sv c (.inl i))) $$ H
  iintro H
  iapply Hk
  isplitl [H]; · iexact H
  iexact Hr

theorem loadS_Q {α : Type} {Q : α → sProp 𝕄} (i : Fin 8) {hl} {k : ((rQ i).shape.Idx → Elt F .bf16) → Prog (TpuEff nD τ sig (Elt F) Λ₀ .tc) α} :
    sl4 sv c (.inr i) ⊢ iprop((sl4 sv c (.inr i) -∗ Wp c (k (sv c (.inr i))) Q)
      -∗ Wp c (.op (.load (Memref.whole cc0_scratch2 : Memref sig .tc .vmem S8x256x192 .bf16) (rQ i).toLoadRect hl) k) Q) := by
  unfold sl4
  iintro ⟨H, Hr⟩ Hk
  iapply (load_slice c (m := (Memref.whole cc0_scratch2 : Memref sig .tc .vmem S8x256x192 .bf16)) (r := rQ i) (hr := fun _ => rfl) (sv c (.inr i))) $$ H
  iintro H
  iapply Hk
  isplitl [H]; · iexact H
  iexact Hr

theorem loadR_H {α : Type} {Q : α → sProp 𝕄} (i : Fin 4) {hl} {k : ((rH i).shape.Idx → Elt F .bf16) → Prog (TpuEff nD τ sig (Elt F) Λ₀ .tc) α} :
    sl4 sv c (.inl i) ⊢ iprop((sl4 sv c (.inl i) -∗ Wp c (k (sv (pr c (link (.inl i))) (.inl i))) Q)
      -∗ Wp c (.op (.load (Memref.whole cc0_scratch1 : Memref sig .tc .vmem S4x256x384 .bf16) (rH i).toLoadRect hl) k) Q) := by
  unfold sl4
  iintro ⟨Hs, H, Hr⟩ Hk
  iapply (load_slice c (m := (Memref.whole cc0_scratch1 : Memref sig .tc .vmem S4x256x384 .bf16)) (r := rH i) (hr := fun _ => rfl) (sv (pr c (link (.inl i))) (.inl i))) $$ H
  iintro H
  iapply Hk
  isplitl [Hs]; · iexact Hs
  isplitl [H]; · iexact H
  iexact Hr

theorem loadR_Q {α : Type} {Q : α → sProp 𝕄} (i : Fin 8) {hl} {k : ((rQ i).shape.Idx → Elt F .bf16) → Prog (TpuEff nD τ sig (Elt F) Λ₀ .tc) α} :
    sl4 sv c (.inr i) ⊢ iprop((sl4 sv c (.inr i) -∗ Wp c (k (sv (pr c (link (.inr i))) (.inr i))) Q)
      -∗ Wp c (.op (.load (Memref.whole cc0_scratch3 : Memref sig .tc .vmem S8x256x192 .bf16) (rQ i).toLoadRect hl) k) Q) := by
  unfold sl4
  iintro ⟨Hs, H, Hr⟩ Hk
  iapply (load_slice c (m := (Memref.whole cc0_scratch3 : Memref sig .tc .vmem S8x256x192 .bf16)) (r := rQ i) (hr := fun _ => rfl) (sv (pr c (link (.inr i))) (.inr i))) $$ H
  iintro H
  iapply Hk
  isplitl [Hs]; · iexact Hs
  isplitl [H]; · iexact H
  iexact Hr

/-- The load before a slot's store, and the store of what is to be sent. -/
theorem load0_H {α : Type} {Q : α → sProp 𝕄} (i : Fin 4) {hl} {k : ((rH i).shape.Idx → Elt F .bf16) → Prog (TpuEff nD τ sig (Elt F) Λ₀ .tc) α} :
    sl0 c (.inl i) ⊢ iprop((∀ v, sl0 c (.inl i) -∗ Wp c (k v) Q)
      -∗ Wp c (.op (.load (Memref.whole cc0_scratch0 : Memref sig .tc .vmem S4x256x384 .bf16) (rH i).toLoadRect hl) k) Q) := by
  unfold sl0
  iintro ⟨H, Hr⟩ Hk
  iapply (load_any c (m := (Memref.whole cc0_scratch0 : Memref sig .tc .vmem S4x256x384 .bf16)) (r := rH i) (hr := fun _ => rfl)) $$ H
  iintro %v H
  ispecialize Hk $$ %v
  iapply Hk
  isplitl [H]; · iexact H
  iexact Hr

theorem load0_Q {α : Type} {Q : α → sProp 𝕄} (i : Fin 8) {hl} {k : ((rQ i).shape.Idx → Elt F .bf16) → Prog (TpuEff nD τ sig (Elt F) Λ₀ .tc) α} :
    sl0 c (.inr i) ⊢ iprop((∀ v, sl0 c (.inr i) -∗ Wp c (k v) Q)
      -∗ Wp c (.op (.load (Memref.whole cc0_scratch2 : Memref sig .tc .vmem S8x256x192 .bf16) (rQ i).toLoadRect hl) k) Q) := by
  unfold sl0
  iintro ⟨H, Hr⟩ Hk
  iapply (load_any c (m := (Memref.whole cc0_scratch2 : Memref sig .tc .vmem S8x256x192 .bf16)) (r := rQ i) (hr := fun _ => rfl)) $$ H
  iintro %v H
  ispecialize Hk $$ %v
  iapply Hk
  isplitl [H]; · iexact H
  iexact Hr

theorem store_H {α : Type} {Q : α → sProp 𝕄} (i : Fin 4) {w : (rH i).shape.Idx → Elt F .bf16} (hw : w = sv c (.inl i)) {hx hm}
    {k : PUnit → Prog (TpuEff nD τ sig (Elt F) Λ₀ .tc) α} :
    sl0 c (.inl i) ⊢ iprop((sl1 sv c (.inl i) -∗ Wp c (k ⟨⟩) Q)
      -∗ Wp c (.op (.store (Memref.whole cc0_scratch0 : Memref sig .tc .vmem S4x256x384 .bf16) (rH i) w Finset.univ hx hm) k) Q) := by
  unfold sl0 sl1
  iintro ⟨H, Hr⟩ Hk
  iapply (store_slice c (m := (Memref.whole cc0_scratch0 : Memref sig .tc .vmem S4x256x384 .bf16)) (r := rH i) (hr := fun _ => rfl) (w := w)) $$ H
  iintro H
  iapply Hk
  rw [← hw]
  isplitl [H]; · iexact H
  iexact Hr

theorem store_Q {α : Type} {Q : α → sProp 𝕄} (i : Fin 8) {w : (rQ i).shape.Idx → Elt F .bf16} (hw : w = sv c (.inr i)) {hx hm}
    {k : PUnit → Prog (TpuEff nD τ sig (Elt F) Λ₀ .tc) α} :
    sl0 c (.inr i) ⊢ iprop((sl1 sv c (.inr i) -∗ Wp c (k ⟨⟩) Q)
      -∗ Wp c (.op (.store (Memref.whole cc0_scratch2 : Memref sig .tc .vmem S8x256x192 .bf16) (rQ i) w Finset.univ hx hm) k) Q) := by
  unfold sl0 sl1
  iintro ⟨H, Hr⟩ Hk
  iapply (store_slice c (m := (Memref.whole cc0_scratch2 : Memref sig .tc .vmem S8x256x192 .bf16)) (r := rQ i) (hr := fun _ => rfl) (w := w)) $$ H
  iintro H
  iapply Hk
  rw [← hw]
  isplitl [H]; · iexact H
  iexact Hr

end SlotMem

end Cert.CrossAttn

end
-- ==== Proof.Sent.lean ====
/-
  What the kernel computes, over any float values: per device, the sixteen head outputs (two batches of eight), the partial
  sums it sends in its slots, and its output.
-/
module

public import proofs.«01_k».proof.Proof.Steps
public import Idealize.ShloMosaic.Lib.ValueIdxCore

@[expose] public section

noncomputable section

namespace Cert.CrossAttn

open Cert.KernelIdeal Cert.KernelIdeal.Gen
open Idealize.ShloMosaic
open Idealize.ShloMosaic.TcCoe
open Idealize.ShloMosaic.ValueIdx (ix2 ix3)

variable {F : FTy → Type} [FloatOps F]

/-- A device's five inputs. -/
structure Inp (F : FTy → Type) where
  x : FVec F S2x256x768 .bf16
  wq : FVec F S768x512 .bf16
  wo : FVec F S512x768 .bf16
  k : FVec F S2x512x512 .bf16
  v : FVec F S2x512x512 .bf16

/-! ## The rectangles the body loads and stores -/

theorem inbX (b : Fin 2) : ∀ a, (![b.val, 0, 0] : Fin 3 → Nat) a + S1x256x768.size a ≤ S2x256x768.size a := by revert b; decide
theorem inbKV (b : Fin 2) : ∀ a, (![b.val, 0, 0] : Fin 3 → Nat) a + S1x512x512.size a ≤ S2x512x512.size a := by revert b; decide
abbrev rX (b : Fin 2) : Rect S2x256x768 := Rect.unit (s := S2x256x768) ![b.val, 0, 0] S1x256x768.size (inbX b)
abbrev rKV (b : Fin 2) : Rect S2x512x512 := Rect.unit (s := S2x512x512) ![b.val, 0, 0] S1x512x512.size (inbKV b)
abbrev rWq : Rect S768x512 := Rect.unit (s := S768x512) ![0, 0] S768x512.size inb_S768x512_S768x512_0_0
abbrev rWo : Rect S512x768 := Rect.unit (s := S512x768) ![0, 0] S512x768.size inb_S512x768_S512x768_0_0
abbrev rAll : Rect S256x512 := Rect.unit (s := S256x512) ![0, 0] S256x512.size inb_S256x512_S256x512_0_0
theorem inbA (n : ℕ) (h : n < 8) : ∀ a, (![0, 64 * n] : Fin 2 → Nat) a + S256x64.size a ≤ S256x512.size a := by
  intro a; match a with
  | ⟨0, _⟩ => show 0 + 256 ≤ 256; omega
  | ⟨1, _⟩ => show 64 * n + 64 ≤ 512; omega
abbrev rA (n : ℕ) (h : n < 8) : Rect S256x512 := Rect.unit (s := S256x512) ![0, 64 * n] S256x64.size (inbA n h)

/-! ## The head outputs -/

section Dev
variable (I : Inp F)

abbrev ldX (b : Fin 2) : FVec F S1x256x768 .bf16 := fun j => I.x ((rX b).emb j)
abbrev ldK (b : Fin 2) : FVec F S1x512x512 .bf16 := fun j => I.k ((rKV b).emb j)
abbrev ldV (b : Fin 2) : FVec F S1x512x512 .bf16 := fun j => I.v ((rKV b).emb j)
abbrev ldWq : FVec F S768x512 .bf16 := fun j => I.wq (rWq.emb j)
abbrev ldWo : FVec F S512x768 .bf16 := fun j => I.wo (rWo.emb j)

/-- Batch 0's queries, keys and values, -/
abbrev q0 : FVec F S256x512 .bf16 := k0_pay4 (ldWq I) (ldX I 0)
abbrev k0 : FVec F S512x512 .bf16 := k0_pay5 (ldK I 0)
abbrev v0 : FVec F S512x512 .bf16 := k0_pay6 (ldV I 0)
/-- batch 1's. -/
abbrev q1 : FVec F S256x512 .bf16 := k0_pay23 (k0_pay2 (ldWq I)) (ldX I 1)
abbrev k1 : FVec F S512x512 .bf16 := k0_pay24 (ldK I 1)
abbrev v1 : FVec F S512x512 .bf16 := k0_pay25 (ldV I 1)

/-- The eight head outputs of batch 0, -/
def hd0 : Fin 8 → FVec F S256x64 .bf16
  | 0 => k0_pay9 (k0_pay7 (ldV I 0)) (k0_pay8 (ldWq I) (ldX I 0) (ldK I 0))
  | 1 => k0_pay10 (q0 I) (k0 I) (v0 I)
  | 2 => k0_pay12 (k0_pay11 (q0 I) (k0 I) (v0 I))
  | 3 => k0_pay13 (q0 I) (k0 I) (v0 I)
  | 4 => k0_pay14 (q0 I) (k0 I) (v0 I)
  | 5 => k0_pay17 (k0_pay15 (v0 I)) (k0_pay16 (q0 I) (k0 I))
  | 6 => k0_pay18 (q0 I) (k0 I) (v0 I)
  | 7 => k0_pay20 (k0_pay19 (q0 I) (k0 I) (v0 I))
/-- of batch 1. -/
def hd1 : Fin 8 → FVec F S256x64 .bf16
  | 0 => k0_pay27 (k0_pay26 (k0_pay2 (ldWq I)) (ldX I 1) (ldK I 1) (ldV I 1))
  | 1 => k0_pay28 (q1 I) (k1 I) (v1 I)
  | 2 => k0_pay29 (q1 I) (k1 I) (v1 I)
  | 3 => k0_pay34 (k0_pay30 (v1 I)) (k0_pay32 (q1 I) (k1 I)) (k0_pay33 (q1 I) (k1 I))
  | 4 => k0_pay39 (k0_pay38 (q1 I) (k1 I) (v1 I))
  | 5 => k0_pay40 (q1 I) (k1 I) (v1 I)
  | 6 => k0_pay41 (q1 I) (k1 I) (v1 I)
  | 7 => k0_pay44 (k0_pay42 (v1 I)) (k0_pay43 (q1 I) (k1 I))
def hd (b : Bool) : Fin 8 → FVec F S256x64 .bf16 := if b then hd1 I else hd0 I

/-- The eight side by side. -/
def att (b : Bool) : FVec F S256x512 .bf16 := fun i =>
  hd I b ⟨(i 1).val / 64, by have h : (i 1).val < 512 := (i 1).isLt; omega⟩ (ix2 (i 0) ⟨(i 1).val % 64, by omega⟩)
def ldA (b : Bool) : FVec F S256x512 .bf16 := fun j => att I b (rAll.emb j)

/-- The partial sums of the first exchange. -/
def hv0 : FVec F S1x256x384 .bf16 := k0_pay21 (k0_pay3 (ldWo I)) (ldA I false)
def hv1 : FVec F S1x256x384 .bf16 := k0_pay22 (k0_pay3 (ldWo I)) (ldA I false)
def qv0 : FVec F S1x256x192 .bf16 := k0_pay45 (k0_pay3 (ldWo I)) (ldA I true)
def qv1 : FVec F S1x256x192 .bf16 := k0_pay47 (k0_pay46 (k0_pay3 (ldWo I)) (ldA I true))
def qv2 : FVec F S1x256x192 .bf16 := k0_pay48 (k0_pay3 (ldWo I)) (ldA I true)
def qv3 : FVec F S1x256x192 .bf16 := k0_pay49 (k0_pay3 (ldWo I)) (ldA I true)

end Dev

/-! ## The mesh -/

variable (I : Dev nD → Inp F)

/-- What device `c` sends in a slot: in the first exchange its own partial sum, in the second that plus what came in. -/
def sv (c : Dev nD) : (s : Slot) → (shS s).Idx → Elt F .bf16
  | .inl 0 => hv0 (I c)
  | .inl 1 => hv1 (I c)
  | .inl 2 => k0_pay36 (k0_pay35 (hv0 (I c)) (hv0 (I (pr c false))))
  | .inl 3 => k0_pay37 (hv1 (I c)) (hv1 (I (pr c true)))
  | .inr 0 => qv0 (I c)
  | .inr 1 => qv1 (I c)
  | .inr 2 => qv2 (I c)
  | .inr 3 => qv3 (I c)
  | .inr 4 => k0_pay52 (qv0 (I c)) (qv0 (I (pr c false)))
  | .inr 5 => k0_pay53 (qv1 (I c)) (qv1 (I (pr c true)))
  | .inr 6 => k0_pay54 (qv2 (I c)) (qv2 (I (pr c false)))
  | .inr 7 => k0_pay56 (k0_pay55 (qv3 (I c)) (qv3 (I (pr c true))))

/-- What device `c` receives in a slot. -/
abbrev rv (c : Dev nD) (s : Slot) : (shS s).Idx → Elt F .bf16 := sv I (pr c (link s)) s

/-- The output's column blocks: two of batch 0, four of batch 1. -/
def o384 (c : Dev nD) : Fin 2 → FVec F S1x256x384 .f32
  | 0 => k0_pay50 (sv I c (.inl 2)) (rv I c (.inl 2))
  | 1 => k0_pay51 (sv I c (.inl 3)) (rv I c (.inl 3))
def o192 (c : Dev nD) : Fin 4 → FVec F S1x256x192 .f32
  | 0 => k0_pay57 (sv I c (.inr 4)) (rv I c (.inr 4))
  | 1 => k0_pay59 (k0_pay58 (sv I c (.inr 5))) (rv I c (.inr 5))
  | 2 => k0_pay62 (k0_pay60 (sv I c (.inr 6))) (k0_pay61 (rv I c (.inr 6)))
  | 3 => k0_pay1 (k0_pay63 (sv I c (.inr 7)) (rv I c (.inr 7)))

/-- Device `c`'s output. -/
def outv (c : Dev nD) : FVec F S2x256x768 .f32 := fun i =>
  if (i 0).val = 0 then
    o384 I c ⟨(i 2).val / 384, by have h : (i 2).val < 768 := (i 2).isLt; omega⟩ (ix3 0 (i 1) ⟨(i 2).val % 384, by omega⟩)
  else
    o192 I c ⟨(i 2).val / 192, by have h : (i 2).val < 768 := (i 2).isLt; omega⟩ (ix3 0 (i 1) ⟨(i 2).val % 192, by omega⟩)

end Cert.CrossAttn

end
-- ==== Proof.Body1.lean ====
/-
  The body's parts, one theorem each: from what a part needs to what it leaves. First the attention buffer and the output
  buffer, filled block by block; then the parts up to the end of batch 0's heads.
-/
module

public import proofs.«01_k».proof.Proof.Sent

@[expose] public section

noncomputable section

namespace Cert.CrossAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3 eq_ix2 eq_ix3)

variable {F : FTy → Type} [FloatOps F]

local notation "𝕄" => MT nD τ sig Unit (Elt F) ℕ UU ℕ

/-! ## The buffers of the body -/

abbrev aX : Memref sig .tc .vmem S2x256x768 .bf16 := Memref.whole cc0_stg0_0
abbrev aWq : Memref sig .tc .vmem S768x512 .bf16 := Memref.whole cc0_stg1_0
abbrev aWo : Memref sig .tc .vmem S512x768 .bf16 := Memref.whole cc0_stg2_0
abbrev aK : Memref sig .tc .vmem S2x512x512 .bf16 := Memref.whole cc0_stg3_0
abbrev aV : Memref sig .tc .vmem S2x512x512 .bf16 := Memref.whole cc0_stg4_0
abbrev aO : Memref sig .tc .vmem S2x256x768 .f32 := Memref.whole cc0_stg5_0
abbrev aA : Memref sig .tc .vmem S256x512 .bf16 := Memref.whole cc0_scratch4

/-- The inputs' staging buffers. -/
def ins (c : Dev nD) (I : Inp F) : sProp 𝕄 :=
  iprop(at_ c aX I.x ∗ at_ c aWq I.wq ∗ at_ c aWo I.wo ∗ at_ c aK I.k ∗ at_ c aV I.v)

/-- The attention buffer with the first `n` heads of a batch in place. -/
def AT (c : Dev nD) (I : Inp F) (b : Bool) (n : ℕ) : sProp 𝕄 :=
  part c aA (fun i => (i 1).val < 64 * n) (att I b)

/-- The output buffer with the first `n` of its six column blocks in place. -/
def OT (c : Dev nD) (I : Dev nD → Inp F) (n : ℕ) : sProp 𝕄 :=
  part c aO (fun i => if (i 0).val = 0 then (i 2).val < 384 * n else (i 2).val < 192 * (n - 2)) (outv I c)

theorem AT_next (c : Dev nD) (I : Inp F) (b b' : Bool) (n : ℕ) : AT c I b n ⊢ AT (F := F) c I b' 0 := by
  unfold AT; exact part_anew c _ (fun i h => absurd h (by omega))
theorem AT_init (c : Dev nD) (I : Inp F) (b : Bool) : any_ c aA ⊢ AT (F := F) c I b 0 := by
  unfold AT; exact part_of_any c _ (fun i h => absurd h (by omega))

omit [FloatOps F] in
/-- Equal coordinates, equal index. -/
theorem idx_ext2 {n0 n1 : ℕ} {i : (⟨2, ![n0, n1]⟩ : Shape).Idx} {a : Fin n0} {b : Fin n1} (h0 : (i 0).val = a.val) (h1 : (i 1).val = b.val) :
    i = ix2 a b := by
  refine (eq_ix2 i).trans ?_
  rw [show i 0 = a from Fin.ext h0, show i 1 = b from Fin.ext h1]; rfl
omit [FloatOps F] in
theorem idx_ext3 {n0 n1 n2 : ℕ} {i : (⟨3, ![n0, n1, n2]⟩ : Shape).Idx} {a : Fin n0} {b : Fin n1} {d : Fin n2} (h0 : (i 0).val = a.val)
    (h1 : (i 1).val = b.val) (h2 : (i 2).val = d.val) : i = ix3 a b d := by
  refine (eq_ix3 i).trans ?_
  rw [show i 0 = a from Fin.ext h0, show i 1 = b from Fin.ext h1, show i 2 = d from Fin.ext h2]; rfl

section AT
variable (c : Dev nD) (I : Inp F) (b : Bool)

theorem att_eq (k : Fin 8) (a : Fin 256) (d : Fin 64) (i : S256x512.Idx) (h0 : (i 0).val = a.val) (h1 : (i 1).val = 64 * k.val + d.val) :
    att I b i = hd I b k (ix2 a d) := by
  have hd' := d.isLt
  unfold att
  refine congr (congrArg _ (Fin.ext ?_)) (idx_ext2 h0 ?_)
  · show (i 1).val / 64 = k.val; omega
  · show (i 1).val % 64 = d.val; omega

theorem load_AT {α : Type} {Q : α → sProp 𝕄} (n : ℕ) {r : Rect S256x512} {hl}
    {k : (r.shape.Idx → Elt F .bf16) → Prog (TpuEff nD τ sig (Elt F) Λ₀ .tc) α} :
    AT c I b n ⊢ iprop((∀ w, AT c I b n -∗ Wp c (k w) Q) -∗ Wp c (.op (.load aA r.toLoadRect hl) k) Q) := by
  unfold AT; exact load_part_any c

theorem load_all {α : Type} {Q : α → sProp 𝕄} {hl}
    {k : (rAll.shape.Idx → Elt F .bf16) → Prog (TpuEff nD τ sig (Elt F) Λ₀ .tc) α} :
    AT c I b 8 ⊢ iprop((AT c I b 8 -∗ Wp c (k (ldA I b)) Q) -∗ Wp c (.op (.load aA rAll.toLoadRect hl) k) Q) := by
  unfold AT; exact load_part c (fun x => (rAll.emb x 1).isLt)

theorem store_head {α : Type} {Q : α → sProp 𝕄} (n : ℕ) (h : n < 8) {w : (rA n h).shape.Idx → Elt F .bf16} (hw : w = hd I b ⟨n, h⟩) {hx hm}
    {k : PUnit → Prog (TpuEff nD τ sig (Elt F) Λ₀ .tc) α} :
    AT c I b n ⊢ iprop((AT c I b (n + 1) -∗ Wp c (k ⟨⟩) Q) -∗ Wp c (.op (.store aA (rA n h) w Finset.univ hx hm) k) Q) := by
  unfold AT
  refine store_part c _ ?_ ?_
  · intro x
    subst hw
    refine (congrArg (hd I b ⟨n, h⟩) (eq_ix2 x)).trans (att_eq I b ⟨n, h⟩ (x 0) (x 1) _ ?_ ?_).symm
    · rw [Rect.emb_apply]; show 0 + 1 * (x 0).val = _; omega
    · rw [Rect.emb_apply]; show 64 * n + 1 * (x 1).val = 64 * n + (x 1).val; omega
  · intro i hi
    by_cases hlt : (i 1).val < 64 * n
    · exact .inr hlt
    · left
      rw [Rect.mem_set_unit]
      intro a; match a with
      | ⟨0, _⟩ => exact ⟨Nat.zero_le _, (i 0).isLt⟩
      | ⟨1, _⟩ => exact ⟨Nat.le_of_not_lt hlt, by show (i 1).val < 64 * n + 64; omega⟩

end AT

/-- What every part of the body is called with. -/
abbrev run {β : Type*} (p : (a0 : Memref sig .tc .vmem S2x256x768 .bf16) → a0.IsWhole → (a1 : Memref sig .tc .vmem S768x512 .bf16) → a1.IsWhole
    → (a2 : Memref sig .tc .vmem S512x768 .bf16) → a2.IsWhole → (a3 : Memref sig .tc .vmem S2x512x512 .bf16) → a3.IsWhole
    → (a4 : Memref sig .tc .vmem S2x512x512 .bf16) → a4.IsWhole → (a5 : Memref sig .tc .vmem S2x256x768 .f32) → a5.IsWhole
    → (a6 : Memref sig .tc .vmem S4x256x384 .bf16) → a6.IsWhole → (a7 : Memref sig .tc .vmem S4x256x384 .bf16) → a7.IsWhole
    → (a8 : Memref sig .tc .vmem S8x256x192 .bf16) → a8.IsWhole → (a9 : Memref sig .tc .vmem S8x256x192 .bf16) → a9.IsWhole
    → (a10 : Memref sig .tc .vmem S256x512 .bf16) → a10.IsWhole
    → DmaSems sig S4 → DmaSems sig S4 → DmaSems sig S8 → DmaSems sig S8 → β) : β :=
  p aX (Memref.isWhole_whole _) aWq (Memref.isWhole_whole _) aWo (Memref.isWhole_whole _) aK (Memref.isWhole_whole _)
    aV (Memref.isWhole_whole _) aO (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) aA (Memref.isWhole_whole _) cc0_scratch5 cc0_scratch6 cc0_scratch7 cc0_scratch8

/-! ## The barrier -/

variable (I : Dev nD → Inp F) (K : Names) (c : Dev nD)

/-- What a device needs for the barrier: the tokens and marks for its two signals, its position and credit for its wait, and
    its receive buffers to hand out. -/
def bar0 : sProp 𝕄 :=
  iprop(dutyTok ER (barCell (pr c false)) 0 false ∗ dutyTok ER (barCell (pr c true)) 0 true
    ∗ reached ER (barCell (pr c false)) 0 ∗ reached ER (barCell (pr c true)) 0
    ∗ atPos ER (barCell c) 0 ∅ 0 ∗ cred (tallyAt (barCell c) () 2)
    ∗ bigSep Finset.univ fun s : Slot => iprop(any_ (F := F) c (rcvM s) ∗ reached ER (rcvCell c s) 0))
/-- What it has afterwards: its peers' receive buffers. -/
def bar1 : sProp 𝕄 :=
  iprop(atPos ER (barCell c) 1 ∅ 0
    ∗ bigSep Finset.univ fun s : Slot => iprop(any_ (F := F) (pr c (link s)) (rcvM s) ∗ reached ER (rcvCell (pr c (link s)) s) 0))

omit [FloatOps F] in
theorem by_link (Φ : Slot → sProp 𝕄) : bigSep Finset.univ Φ = iprop(bigSep (six false) Φ ∗ bigSep (six true) Φ) := by
  rw [bigSep_fiberwise Finset.univ link Φ, show Finset.univ.image link = (Finset.univ : Finset Bool) by decide,
    bigSep_univ_eq_bigSepL [false, true] (by decide) (by decide)]
  rfl

omit [FloatOps F] in
theorem barPay_own (l : Bool) :
    bigSep (six l) (fun s : Slot => iprop(any_ (F := F) c (rcvM s) ∗ reached ER (rcvCell c s) 0)) = barPay (pr c l) l := by
  unfold barPay; rw [pr_pr]

omit [FloatOps F] in
theorem bufs_split :
    bigSep Finset.univ (fun s : Slot => iprop(any_ (F := F) c (rcvM s) ∗ reached ER (rcvCell c s) 0))
      = iprop(barPay (pr c false) false ∗ barPay (pr c true) true) := by
  rw [by_link, barPay_own, barPay_own]

omit [FloatOps F] in
theorem barPay_link (l : Bool) :
    bigSep (six l) (fun s : Slot => iprop(any_ (F := F) (pr c (link s)) (rcvM s) ∗ reached ER (rcvCell (pr c (link s)) s) 0)) = barPay c l := by
  unfold barPay
  refine BI.bigSep_congr fun s hs => ?_
  rw [(Finset.mem_filter.mp hs).2]

omit [FloatOps F] in
theorem rest_bar (sv : Dev nD → (s : Slot) → (shS s).Idx → Elt F .bf16) :
    bigSep ((Rd (F := F) sv).duties (barCell c) 0 \ ∅) (fun u => (Rd (F := F) sv).payload (barCell c) 0 u)
      = bigSep Finset.univ fun s : Slot => iprop(any_ (F := F) (pr c (link s)) (rcvM s) ∗ reached ER (rcvCell (pr c (link s)) s) 0) := by
  rw [Finset.sdiff_empty, duties_bar, by_link, barPay_link, barPay_link, bigSep_univ_eq_bigSepL [false, true] (by decide) (by decide)]
  rfl

/-- Part 1: the barrier, and the loads of batch 0. -/
theorem part1 {Q} :
    env (sv I) K ⊢ iprop(ins c (I c) -∗ bar0 (F := F) c -∗ (∃ W, owes (c : Thread nD τ) (O₀ c) W)
      -∗ (∀ v3 v4, (ins c (I c) ∗ bar1 (F := F) c ∗ owe (F := F) c 0) -∗ Q ⟨c, v3, v4, k0_pay2 (ldWq (I c)), k0_pay3 (ldWo (I c)), q0 (I c), k0 (I c), v0 (I c),
          k0_pay7 (ldV (I c) 0), k0_pay8 (ldWq (I c)) (ldX (I c) 0) (ldK (I c) 0)⟩)
      -∗ Wp c (run k0_part1) Q) := by
  simp only [run, Wp, k0_part1_eq_skeleton]; unfold k0_part1_skel
  simp only [semSignalWord, semWaitWord, Prog.lift, Prog.bind_op, Prog.bind_ret, Prog.pure_eq_ret, wp_deviceId]
  simp only [dev1_eq c, dev2_eq c]
  unfold env ins bar0 owe
  iintro ⟨#HIb, -, -, #Hlev⟩ ⟨Hx, Hwq, Hwo, Hkk, Hv⟩ ⟨Ht0, Ht1, #Hr0, #Hr1, HaB, HcB, Hbufs⟩ ⟨%W, HO⟩ Hk
  ihave Hbufs := (Entails.of_eq (bufs_split (F := F) c)) $$ Hbufs
  icases Hbufs with ⟨Hb0, Hb1⟩
  ihave #HI0 := HIb $$ %(pr c false)
  ihave #HI1 := HIb $$ %(pr c true)
  ihave #HI := HIb $$ %c
  iapply (Rounds.wp_signal 𝒱₀ ER (Rd (sv I)) (c : Thread nD τ) none (dst := (pr c false : Thread nD τ)) (κ := K (pr c false, none)) (d := false)
      (by rw [duties_bar]; exact Finset.mem_univ _) ((amount_bar (sv I) (pr c false) false).trans (by decide)) ()
      (due c 0 + tallyAt (barCell (pr c true)) () 1) rfl) $$ [HO Ht0 Hb0]
  · isplitr; · iexact HI0
    isplitl [HO]; · iexact HO
    isplitl [Ht0]; · iexact Ht0
    isplitl [Hb0]; · rw [payload_bar]; iexact Hb0
    iexact Hr0
  iintro HO
  iapply (Rounds.wp_signal 𝒱₀ ER (Rd (sv I)) (c : Thread nD τ) none (dst := (pr c true : Thread nD τ)) (κ := K (pr c true, none)) (d := true)
      (by rw [duties_bar]; exact Finset.mem_univ _) ((amount_bar (sv I) (pr c true) true).trans (by decide)) () (due c 0) rfl) $$ [HO Ht1 Hb1]
  · isplitr; · iexact HI1
    isplitl [HO]; · iexact HO
    isplitl [Ht1]; · iexact Ht1
    isplitl [Hb1]; · rw [payload_bar]; iexact Hb1
    iexact Hr1
  iintro HO
  iapply (Rounds.wp_wait_rest_token 𝒱₀ ER (Rd (sv I)) (c : Thread nD τ) none (κ := K (c, none))
      (wpE_semWait_eq 𝒱₀ (c : Thread nD τ) none Set.univ) (Set.mem_univ _) () (O := due c 0) (W := W) (R := 0) (m := 0) (T := ∅)
      (by rw [expect_bar]; decide)) $$ [HcB HO HaB]
  · isplitr; · iexact HI
    isplitl [HcB]; · iexact HcB
    isplitl [HO]; · iexact HO
    isplitr; · iapply (mayWait c (.reg barS) 0 1 (le_of_eq (lv_bar c)) (by omega)); iexact Hlev
    iexact HaB
  iintro ⟨HO, HaB, -, Hpay⟩
  ihave Hp := (Entails.of_eq (rest_bar c (sv I))) $$ Hpay
  iapply (load_at c (I c).wq) $$ Hwq; iintro Hwq
  iapply (load_at c (I c).wo) $$ Hwo; iintro Hwo
  iapply (load_at c (I c).x (r := rX 0)) $$ Hx; iintro Hx
  iapply (load_at c (I c).k (r := rKV 0)) $$ Hkk; iintro Hkk
  iapply (load_at c (I c).v (r := rKV 0)) $$ Hv; iintro Hv
  iapply (Wp_ret_eq c (a := ⟨c, _, _, k0_pay2 (ldWq (I c)), k0_pay3 (ldWo (I c)), q0 (I c), k0 (I c), v0 (I c), k0_pay7 (ldV (I c) 0),
    k0_pay8 (ldWq (I c)) (ldX (I c) 0) (ldK (I c) 0)⟩)) $$ []
  · ipureintro; rfl
  iapply Hk
  unfold bar1
  isplitl [Hx Hwq Hwo Hkk Hv]
  · isplitl [Hx]; · iexact Hx
    isplitl [Hwq]; · iexact Hwq
    isplitl [Hwo]; · iexact Hwo
    isplitl [Hkk]; · iexact Hkk
    iexact Hv
  isplitr [HO]
  · isplitl [HaB]; · iexact HaB
    iexact Hp
  iexists _; iexact HO

/-! ## Batch 0's heads -/

theorem part2 {Q} :
    AT c (I c) false 0 ⊢ iprop((AT c (I c) false 2 -∗ Q (k0_pay11 (q0 (I c)) (k0 (I c)) (v0 (I c))))
      -∗ Wp c (run k0_part2 (q0 (I c)) (k0 (I c)) (v0 (I c)) (k0_pay7 (ldV (I c) 0)) (k0_pay8 (ldWq (I c)) (ldX (I c) 0) (ldK (I c) 0))) Q) := by
  simp only [run, k0_part2_eq_skeleton]; unfold k0_part2_skel
  simp only [Prog.lift, Prog.bind_op, Prog.bind_ret, Prog.pure_eq_ret]
  iintro HA Hk
  iapply (load_AT c (I c) false 0) $$ HA; iintro %w HA
  iapply (store_head c (I c) false 0 (by decide) rfl) $$ HA; iintro HA
  iapply (load_AT c (I c) false 1) $$ HA; iintro %w HA
  iapply (store_head c (I c) false 1 (by decide) rfl) $$ HA; iintro HA
  iapply (Wp_ret c); iapply Hk; iexact HA

theorem part3 {Q} :
    AT c (I c) false 2 ⊢ iprop((AT c (I c) false 5 -∗ Q ⟨k0_pay15 (v0 (I c)), k0_pay16 (q0 (I c)) (k0 (I c))⟩)
      -∗ Wp c (run k0_part3 (q0 (I c)) (k0 (I c)) (v0 (I c)) (k0_pay11 (q0 (I c)) (k0 (I c)) (v0 (I c)))) Q) := by
  simp only [run, k0_part3_eq_skeleton]; unfold k0_part3_skel
  simp only [Prog.lift, Prog.bind_op, Prog.bind_ret, Prog.pure_eq_ret]
  iintro HA Hk
  iapply (load_AT c (I c) false 2) $$ HA; iintro %w HA
  iapply (store_head c (I c) false 2 (by decide) rfl) $$ HA; iintro HA
  iapply (load_AT c (I c) false 3) $$ HA; iintro %w HA
  iapply (store_head c (I c) false 3 (by decide) rfl) $$ HA; iintro HA
  iapply (load_AT c (I c) false 4) $$ HA; iintro %w HA
  iapply (store_head c (I c) false 4 (by decide) rfl) $$ HA; iintro HA
  iapply (Wp_ret c); iapply Hk; iexact HA

theorem part4 {Q} :
    AT c (I c) false 5 ⊢ iprop((AT c (I c) false 7 -∗ Q (k0_pay19 (q0 (I c)) (k0 (I c)) (v0 (I c))))
      -∗ Wp c (run k0_part4 (q0 (I c)) (k0 (I c)) (v0 (I c)) (k0_pay15 (v0 (I c))) (k0_pay16 (q0 (I c)) (k0 (I c)))) Q) := by
  simp only [run, k0_part4_eq_skeleton]; unfold k0_part4_skel
  simp only [Prog.lift, Prog.bind_op, Prog.bind_ret, Prog.pure_eq_ret]
  iintro HA Hk
  iapply (load_AT c (I c) false 5) $$ HA; iintro %w HA
  iapply (store_head c (I c) false 5 (by decide) rfl) $$ HA; iintro HA
  iapply (load_AT c (I c) false 6) $$ HA; iintro %w HA
  iapply (store_head c (I c) false 6 (by decide) rfl) $$ HA; iintro HA
  iapply (Wp_ret c); iapply Hk; iexact HA

theorem part5 (v3 : BitVec 32) {Q} :
    env (sv I) K ⊢ iprop(AT c (I c) false 7 -∗ sl0 (F := F) c (.inl 0) -∗ sl0 (F := F) c (.inl 1) -∗ owe (F := F) c 0
      -∗ ((AT c (I c) false 8 ∗ sl2 (F := F) c (.inl 0) ∗ sl1 (sv I) c (.inl 1) ∗ owe (F := F) c 1) -∗ Q ⟨⟩)
      -∗ Wp c (run k0_part5 c v3 (k0_pay3 (ldWo (I c))) (k0_pay19 (q0 (I c)) (k0 (I c)) (v0 (I c)))) Q) := by
  simp only [run, k0_part5_eq_skeleton]; unfold k0_part5_skel
  simp only [Prog.lift, Prog.bind_op, Prog.bind_ret, Prog.pure_eq_ret]
  iintro #He HA H0 H1 HO Hk
  iapply (load_AT c (I c) false 7) $$ HA; iintro %w HA
  iapply (store_head c (I c) false 7 (by decide) rfl) $$ HA; iintro HA
  iapply (load_all c (I c) false) $$ HA; iintro HA
  iapply (load0_H c 0) $$ H0; iintro %w H0
  iapply (store_H (sv I) c 0 rfl) $$ H0; iintro H0
  iapply (start_slot (sv I) K c (.inl 0) 0 rfl _ (dev3_eq c)) $$ He H0 HO; iintro ⟨H0, HO⟩
  iapply (load_all c (I c) false) $$ HA; iintro HA
  iapply (load0_H c 1) $$ H1; iintro %w H1
  iapply (store_H (sv I) c 1 rfl) $$ H1; iintro H1
  iapply (Wp_ret c); iapply Hk
  isplitl [HA]; · iexact HA
  isplitl [H0]; · iexact H0
  isplitl [H1]; · iexact H1
  iexact HO

end Cert.CrossAttn

end
-- ==== Proof.Body2.lean ====
/-
  The second half of the body's parts: batch 1's heads, the exchanges, and the output.
-/
module

public import proofs.«01_k».proof.Proof.Body1

@[expose] public section

noncomputable section

namespace Cert.CrossAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3 eq_ix2 eq_ix3)

variable {F : FTy → Type} [FloatOps F]

local notation "𝕄" => MT nD τ sig Unit (Elt F) ℕ UU ℕ

variable (I : Dev nD → Inp F) (K : Names) (c : Dev nD)

/-! ## The output's column blocks -/

theorem outv_384 (p : Fin 2) (a : Fin 256) (d : Fin 384) (i : S2x256x768.Idx) (h0 : (i 0).val = 0) (h1 : (i 1).val = a.val)
    (h2 : (i 2).val = 384 * p.val + d.val) : outv I c i = o384 I c p (ix3 0 a d) := by
  have hd := d.isLt
  unfold outv
  rw [if_pos h0]
  refine congr (congrArg _ (Fin.ext ?_)) (idx_ext3 rfl h1 ?_)
  · show (i 2).val / 384 = p.val; omega
  · show (i 2).val % 384 = d.val; omega

theorem outv_192 (q : Fin 4) (a : Fin 256) (d : Fin 192) (i : S2x256x768.Idx) (h0 : (i 0).val = 1) (h1 : (i 1).val = a.val)
    (h2 : (i 2).val = 192 * q.val + d.val) : outv I c i = o192 I c q (ix3 0 a d) := by
  have hd := d.isLt
  unfold outv
  rw [if_neg (by omega)]
  refine congr (congrArg _ (Fin.ext ?_)) (idx_ext3 rfl h1 ?_)
  · show (i 2).val / 192 = q.val; omega
  · show (i 2).val % 192 = d.val; omega

theorem load_OT {α : Type} {Q : α → sProp 𝕄} (n : ℕ) {r : Rect S2x256x768} {hl}
    {k : (r.shape.Idx → Elt F .f32) → Prog (TpuEff nD τ sig (Elt F) Λ₀ .tc) α} :
    OT c I n ⊢ iprop((∀ w, OT c I n -∗ Wp c (k w) Q) -∗ Wp c (.op (.load aO r.toLoadRect hl) k) Q) := by
  unfold OT; exact load_part_any c

omit [FloatOps F] in
theorem inb384 (p : ℕ) (h : p < 2) : ∀ a, (![0, 0, 384 * p] : Fin 3 → Nat) a + S1x256x384.size a ≤ S2x256x768.size a := by
  intro a; match a with
  | ⟨0, _⟩ => show 0 + 1 ≤ 2; omega
  | ⟨1, _⟩ => show 0 + 256 ≤ 256; omega
  | ⟨2, _⟩ => show 384 * p + 384 ≤ 768; omega
omit [FloatOps F] in
theorem inb192 (q : ℕ) (h : q < 4) : ∀ a, (![1, 0, 192 * q] : Fin 3 → Nat) a + S1x256x192.size a ≤ S2x256x768.size a := by
  intro a; match a with
  | ⟨0, _⟩ => show 1 + 1 ≤ 2; omega
  | ⟨1, _⟩ => show 0 + 256 ≤ 256; omega
  | ⟨2, _⟩ => show 192 * q + 192 ≤ 768; omega
abbrev r384 (p : ℕ) (h : p < 2) : Rect S2x256x768 := Rect.unit (s := S2x256x768) ![0, 0, 384 * p] S1x256x384.size (inb384 p h)
abbrev r192 (q : ℕ) (h : q < 4) : Rect S2x256x768 := Rect.unit (s := S2x256x768) ![1, 0, 192 * q] S1x256x192.size (inb192 q h)

theorem store_384 {α : Type} {Q : α → sProp 𝕄} (p : ℕ) (h : p < 2) {w : (r384 p h).shape.Idx → Elt F .f32} (hw : w = o384 I c ⟨p, h⟩) {hx hm}
    {k : PUnit → Prog (TpuEff nD τ sig (Elt F) Λ₀ .tc) α} :
    OT c I p ⊢ iprop((OT c I (p + 1) -∗ Wp c (k ⟨⟩) Q) -∗ Wp c (.op (.store aO (r384 p h) w Finset.univ hx hm) k) Q) := by
  unfold OT
  refine store_part c _ ?_ ?_
  · intro x
    subst hw
    have hx0 : (x 0).val < 1 := (x 0).isLt
    refine (congrArg (o384 I c ⟨p, h⟩) (idx_ext3 (a := (0 : Fin 1)) (b := x 1) (d := x 2) (Nat.lt_one_iff.mp hx0) rfl rfl)).trans
      (outv_384 I c ⟨p, h⟩ (x 1) (x 2) _ ?_ ?_ ?_).symm
    · rw [Rect.emb_apply]; show 0 + 1 * (x 0).val = 0; omega
    · rw [Rect.emb_apply]; show 0 + 1 * (x 1).val = (x 1).val; omega
    · rw [Rect.emb_apply]; show 384 * p + 1 * (x 2).val = 384 * p + (x 2).val; omega
  · intro i hi
    by_cases h0 : (i 0).val = 0
    · rw [if_pos h0] at hi
      rw [if_pos h0]
      by_cases hlt : (i 2).val < 384 * p
      · exact .inr hlt
      left
      rw [Rect.mem_set_unit]
      intro a; match a with
      | ⟨0, _⟩ => exact ⟨Nat.zero_le _, by show (i 0).val < 0 + 1; omega⟩
      | ⟨1, _⟩ => exact ⟨Nat.zero_le _, (Nat.zero_add 256).symm ▸ (i 1).isLt⟩
      | ⟨2, _⟩ => exact ⟨Nat.le_of_not_lt hlt, by show (i 2).val < 384 * p + 384; omega⟩
    · rw [if_neg h0] at hi
      exact absurd hi (by omega)

theorem store_192 {α : Type} {Q : α → sProp 𝕄} (q : ℕ) (h : q < 4) {w : (r192 q h).shape.Idx → Elt F .f32} (hw : w = o192 I c ⟨q, h⟩) {hx hm}
    {k : PUnit → Prog (TpuEff nD τ sig (Elt F) Λ₀ .tc) α} :
    OT c I (2 + q) ⊢ iprop((OT c I (2 + q + 1) -∗ Wp c (k ⟨⟩) Q) -∗ Wp c (.op (.store aO (r192 q h) w Finset.univ hx hm) k) Q) := by
  unfold OT
  refine store_part c _ ?_ ?_
  · intro x
    subst hw
    have hx0 : (x 0).val < 1 := (x 0).isLt
    refine (congrArg (o192 I c ⟨q, h⟩) (idx_ext3 (a := (0 : Fin 1)) (b := x 1) (d := x 2) (Nat.lt_one_iff.mp hx0) rfl rfl)).trans
      (outv_192 I c ⟨q, h⟩ (x 1) (x 2) _ ?_ ?_ ?_).symm
    · rw [Rect.emb_apply]; show 1 + 1 * (x 0).val = 1; omega
    · rw [Rect.emb_apply]; show 0 + 1 * (x 1).val = (x 1).val; omega
    · rw [Rect.emb_apply]; show 192 * q + 1 * (x 2).val = 192 * q + (x 2).val; omega
  · intro i hi
    have hi2 : (i 2).val < 768 := (i 2).isLt
    have hi0 : (i 0).val < 2 := (i 0).isLt
    by_cases h0 : (i 0).val = 0
    · right
      rw [if_pos h0]; omega
    · rw [if_neg h0] at hi
      rw [if_neg h0]
      by_cases hlt : (i 2).val < 192 * (2 + q - 2)
      · exact .inr hlt
      left
      rw [Rect.mem_set_unit]
      intro a; match a with
      | ⟨0, _⟩ => exact ⟨by show 1 ≤ (i 0).val; omega, by show (i 0).val < 1 + 1; omega⟩
      | ⟨1, _⟩ => exact ⟨Nat.zero_le _, (Nat.zero_add 256).symm ▸ (i 1).isLt⟩
      | ⟨2, _⟩ => exact ⟨by show 192 * q ≤ (i 2).val; omega, by show (i 2).val < 192 * q + 192; omega⟩

/-! ## Batch 1's heads and partial sums -/

theorem part6 (v4 : BitVec 32) {Q} :
    env (sv I) K ⊢ iprop(sl1 (sv I) c (.inl 1) -∗ owe (F := F) c 1 -∗ ins c (I c) -∗ AT c (I c) false 8
      -∗ ((sl2 (F := F) c (.inl 1) ∗ owe (F := F) c 2 ∗ ins c (I c) ∗ AT c (I c) true 0) -∗ Q ⟨q1 (I c), k1 (I c), v1 (I c), k0_pay26 (k0_pay2 (ldWq (I c))) (ldX (I c) 1) (ldK (I c) 1) (ldV (I c) 1)⟩)
      -∗ Wp c (run k0_part6 c v4 (k0_pay2 (ldWq (I c)))) Q) := by
  simp only [run, k0_part6_eq_skeleton]; unfold k0_part6_skel
  simp only [Prog.lift, Prog.bind_op, Prog.bind_ret, Prog.pure_eq_ret]
  iintro #He HH1 HO Hins HA Hk
  iapply (start_slot (sv I) K c (.inl 1) 1 rfl _ (dev4_eq c)) $$ He HH1 HO; iintro ⟨HH1, HO⟩
  unfold ins
  icases Hins with ⟨Hx, Hwq, Hwo, Hkk, Hv⟩
  iapply (load_at c (I c).x (r := rX 1)) $$ Hx; iintro Hx
  iapply (load_at c (I c).k (r := rKV 1)) $$ Hkk; iintro Hkk
  iapply (load_at c (I c).v (r := rKV 1)) $$ Hv; iintro Hv
  ihave HA := (AT_next c (I c) false true 8) $$ HA
  iapply (load_AT c (I c) true 0) $$ HA; iintro %w HA
  iapply (Wp_ret_eq c (a := ⟨q1 (I c), k1 (I c), v1 (I c), k0_pay26 (k0_pay2 (ldWq (I c))) (ldX (I c) 1) (ldK (I c) 1) (ldV (I c) 1)⟩)) $$ []
  · ipureintro; rfl
  iapply Hk
  isplitl [HH1]; · iexact HH1
  isplitl [HO]; · iexact HO
  isplitl [Hx Hwq Hwo Hkk Hv]
  · iframe
  iexact HA

theorem part7 {Q} :
    AT c (I c) true 0 ⊢ iprop(
      (AT c (I c) true 3 -∗ Q ⟨k0_pay30 (v1 (I c)), k0_pay32 (q1 (I c)) (k1 (I c)), k0_pay33 (q1 (I c)) (k1 (I c))⟩)
      -∗ Wp c (run k0_part7 (q1 (I c)) (k1 (I c)) (v1 (I c)) (k0_pay26 (k0_pay2 (ldWq (I c))) (ldX (I c) 1) (ldK (I c) 1) (ldV (I c) 1))) Q) := by
  simp only [run, k0_part7_eq_skeleton]; unfold k0_part7_skel
  simp only [Prog.lift, Prog.bind_op, Prog.bind_ret, Prog.pure_eq_ret]
  iintro HA Hk
  iapply (store_head c (I c) true 0 (by decide) rfl) $$ HA; iintro HA
  iapply (load_AT c (I c) true 1) $$ HA; iintro %w HA
  iapply (store_head c (I c) true 1 (by decide) rfl) $$ HA; iintro HA
  iapply (load_AT c (I c) true 2) $$ HA; iintro %w HA
  iapply (store_head c (I c) true 2 (by decide) rfl) $$ HA; iintro HA
  iapply (Wp_ret c); iapply Hk
  iexact HA

theorem part8 (v3 : BitVec 32) {Q} :
    env (sv I) K ⊢ iprop(AT c (I c) true 3 -∗ sl2 (F := F) c (.inl 0) -∗ owe (F := F) c 2
      -∗ ((AT c (I c) true 4 ∗ sl4 (sv I) c (.inl 0) ∗ owe (F := F) c 2) -∗ Q (k0_pay35 (sv I c (.inl 0)) (rv I c (.inl 0))))
      -∗ Wp c (run k0_part8 v3 (k0_pay30 (v1 (I c))) (k0_pay32 (q1 (I c)) (k1 (I c))) (k0_pay33 (q1 (I c)) (k1 (I c)))) Q) := by
  simp only [run, k0_part8_eq_skeleton]; unfold k0_part8_skel
  simp only [Prog.lift, Prog.bind_op, Prog.bind_ret, Prog.pure_eq_ret]
  iintro #He HA HH0 HO Hk
  iapply (load_AT c (I c) true 3) $$ HA; iintro %w HA
  iapply (store_head c (I c) true 3 (by decide) rfl) $$ HA; iintro HA
  iapply (wait_snd (sv I) K c (.inl 0) 2) $$ He HH0 HO; iintro ⟨HH0, HO⟩
  iapply (wait_rcv (sv I) K c (.inl 0) 2 (by decide)) $$ He HH0 HO; iintro ⟨HH0, HO⟩
  iapply (loadS_H (sv I) c 0) $$ HH0; iintro HH0
  iapply (loadR_H (sv I) c 0) $$ HH0; iintro HH0
  iapply (Wp_ret c); iapply Hk
  isplitl [HA]; · iexact HA
  isplitl [HH0]; · iexact HH0
  iexact HO

theorem part9 (v4 : BitVec 32) {Q} :
    env (sv I) K ⊢ iprop(sl0 (F := F) c (.inl 2) -∗ owe (F := F) c 2 -∗ sl2 (F := F) c (.inl 1)
      -∗ ((sl2 (F := F) c (.inl 2) ∗ owe (F := F) c 3 ∗ sl3 (sv I) c (.inl 1)) -∗ Q ⟨⟩)
      -∗ Wp c (run k0_part9 c v4 (k0_pay35 (sv I c (.inl 0)) (rv I c (.inl 0)))) Q) := by
  simp only [run, k0_part9_eq_skeleton]; unfold k0_part9_skel
  simp only [Prog.lift, Prog.bind_op, Prog.bind_ret, Prog.pure_eq_ret]
  iintro #He HH2 HO HH1 Hk
  iapply (load0_H c 2) $$ HH2; iintro %v HH2
  iapply (store_H (sv I) c 2 rfl) $$ HH2; iintro HH2
  iapply (start_slot (sv I) K c (.inl 2) 2 rfl _ (dev5_eq c)) $$ He HH2 HO; iintro ⟨HH2, HO⟩
  iapply (wait_snd (sv I) K c (.inl 1) 3) $$ He HH1 HO; iintro ⟨HH1, HO⟩
  iapply (Wp_ret c); iapply Hk
  isplitl [HH2]; · iexact HH2
  isplitl [HO]; · iexact HO
  iexact HH1

theorem part10 (v3 : BitVec 32) {Q} :
    env (sv I) K ⊢ iprop(sl3 (sv I) c (.inl 1) -∗ owe (F := F) c 3 -∗ sl0 (F := F) c (.inl 3)
      -∗ ((sl4 (sv I) c (.inl 1) ∗ owe (F := F) c 4 ∗ sl2 (F := F) c (.inl 3)) -∗ Q (k0_pay38 (q1 (I c)) (k1 (I c)) (v1 (I c))))
      -∗ Wp c (run k0_part10 c v3 (q1 (I c)) (k1 (I c)) (v1 (I c))) Q) := by
  simp only [run, k0_part10_eq_skeleton]; unfold k0_part10_skel
  simp only [Prog.lift, Prog.bind_op, Prog.bind_ret, Prog.pure_eq_ret]
  iintro #He HH1 HO HH3 Hk
  iapply (wait_rcv (sv I) K c (.inl 1) 3 (by decide)) $$ He HH1 HO; iintro ⟨HH1, HO⟩
  iapply (loadS_H (sv I) c 1) $$ HH1; iintro HH1
  iapply (loadR_H (sv I) c 1) $$ HH1; iintro HH1
  iapply (load0_H c 3) $$ HH3; iintro %v HH3
  iapply (store_H (sv I) c 3 rfl) $$ HH3; iintro HH3
  iapply (start_slot (sv I) K c (.inl 3) 3 rfl _ (dev6_eq c)) $$ He HH3 HO; iintro ⟨HH3, HO⟩
  iapply (Wp_ret c); iapply Hk
  isplitl [HH1]; · iexact HH1
  isplitl [HO]; · iexact HO
  iexact HH3

theorem part11 {Q} :
    AT c (I c) true 4 ⊢ iprop(
      (AT c (I c) true 7 -∗ Q ⟨k0_pay42 (v1 (I c)), k0_pay43 (q1 (I c)) (k1 (I c))⟩)
      -∗ Wp c (run k0_part11 (q1 (I c)) (k1 (I c)) (v1 (I c)) (k0_pay38 (q1 (I c)) (k1 (I c)) (v1 (I c)))) Q) := by
  simp only [run, k0_part11_eq_skeleton]; unfold k0_part11_skel
  simp only [Prog.lift, Prog.bind_op, Prog.bind_ret, Prog.pure_eq_ret]
  iintro HA Hk
  iapply (load_AT c (I c) true 4) $$ HA; iintro %w HA
  iapply (store_head c (I c) true 4 (by decide) rfl) $$ HA; iintro HA
  iapply (load_AT c (I c) true 5) $$ HA; iintro %w HA
  iapply (store_head c (I c) true 5 (by decide) rfl) $$ HA; iintro HA
  iapply (load_AT c (I c) true 6) $$ HA; iintro %w HA
  iapply (store_head c (I c) true 6 (by decide) rfl) $$ HA; iintro HA
  iapply (Wp_ret c); iapply Hk
  iexact HA

theorem part12 (v3 : BitVec 32) {Q} :
    env (sv I) K ⊢ iprop(AT c (I c) true 7 -∗ sl0 (F := F) c (.inr 0) -∗ owe (F := F) c 4
      -∗ ((AT c (I c) true 8 ∗ sl2 (F := F) c (.inr 0) ∗ owe (F := F) c 5) -∗ Q (k0_pay46 (k0_pay3 (ldWo (I c))) (ldA (I c) true)))
      -∗ Wp c (run k0_part12 c v3 (k0_pay3 (ldWo (I c))) (k0_pay42 (v1 (I c))) (k0_pay43 (q1 (I c)) (k1 (I c)))) Q) := by
  simp only [run, k0_part12_eq_skeleton]; unfold k0_part12_skel
  simp only [Prog.lift, Prog.bind_op, Prog.bind_ret, Prog.pure_eq_ret]
  iintro #He HA HQ0 HO Hk
  iapply (load_AT c (I c) true 7) $$ HA; iintro %w HA
  iapply (store_head c (I c) true 7 (by decide) rfl) $$ HA; iintro HA
  iapply (load_all c (I c) true) $$ HA; iintro HA
  iapply (load0_Q c 0) $$ HQ0; iintro %v HQ0
  iapply (store_Q (sv I) c 0 rfl) $$ HQ0; iintro HQ0
  iapply (start_slot (sv I) K c (.inr 0) 4 rfl _ (dev7_eq c)) $$ He HQ0 HO; iintro ⟨HQ0, HO⟩
  iapply (load_all c (I c) true) $$ HA; iintro HA
  iapply (Wp_ret c); iapply Hk
  isplitl [HA]; · iexact HA
  isplitl [HQ0]; · iexact HQ0
  iexact HO

theorem part13 (v3 v4 : BitVec 32) {Q} :
    env (sv I) K ⊢ iprop(sl0 (F := F) c (.inr 1) -∗ owe (F := F) c 5 -∗ AT c (I c) true 8 -∗ sl0 (F := F) c (.inr 2)
      -∗ ((sl2 (F := F) c (.inr 1) ∗ owe (F := F) c 6 ∗ AT c (I c) true 8 ∗ sl1 (sv I) c (.inr 2)) -∗ Q ⟨⟩)
      -∗ Wp c (run k0_part13 c v3 v4 (k0_pay3 (ldWo (I c))) (k0_pay46 (k0_pay3 (ldWo (I c))) (ldA (I c) true))) Q) := by
  simp only [run, k0_part13_eq_skeleton]; unfold k0_part13_skel
  simp only [Prog.lift, Prog.bind_op, Prog.bind_ret, Prog.pure_eq_ret]
  iintro #He HQ1 HO HA HQ2 Hk
  iapply (load0_Q c 1) $$ HQ1; iintro %v HQ1
  iapply (store_Q (sv I) c 1 rfl) $$ HQ1; iintro HQ1
  iapply (start_slot (sv I) K c (.inr 1) 5 rfl _ (dev8_eq c)) $$ He HQ1 HO; iintro ⟨HQ1, HO⟩
  iapply (load_all c (I c) true) $$ HA; iintro HA
  iapply (load0_Q c 2) $$ HQ2; iintro %v HQ2
  iapply (store_Q (sv I) c 2 rfl) $$ HQ2; iintro HQ2
  iapply (Wp_ret c); iapply Hk
  isplitl [HQ1]; · iexact HQ1
  isplitl [HO]; · iexact HO
  isplitl [HA]; · iexact HA
  iexact HQ2

theorem part14 (v4 : BitVec 32) {Q} :
    env (sv I) K ⊢ iprop(sl1 (sv I) c (.inr 2) -∗ owe (F := F) c 6 -∗ AT c (I c) true 8 -∗ sl0 (F := F) c (.inr 3) -∗ sl2 (F := F) c (.inl 2)
      -∗ (∀ w, (sl2 (F := F) c (.inr 2) ∗ owe (F := F) c 8 ∗ AT c (I c) true 8 ∗ sl2 (F := F) c (.inr 3) ∗ sl3 (sv I) c (.inl 2)) -∗ Q w)
      -∗ Wp c (run k0_part14 c v4 (k0_pay3 (ldWo (I c)))) Q) := by
  simp only [run, k0_part14_eq_skeleton]; unfold k0_part14_skel
  simp only [Prog.lift, Prog.bind_op, Prog.bind_ret, Prog.pure_eq_ret]
  iintro #He HQ2 HO HA HQ3 HH2 Hk
  iapply (start_slot (sv I) K c (.inr 2) 6 rfl _ (dev9_eq c)) $$ He HQ2 HO; iintro ⟨HQ2, HO⟩
  iapply (load_all c (I c) true) $$ HA; iintro HA
  iapply (load0_Q c 3) $$ HQ3; iintro %v HQ3
  iapply (store_Q (sv I) c 3 rfl) $$ HQ3; iintro HQ3
  iapply (start_slot (sv I) K c (.inr 3) 7 rfl _ (dev10_eq c)) $$ He HQ3 HO; iintro ⟨HQ3, HO⟩
  iapply (wait_snd (sv I) K c (.inl 2) 8) $$ He HH2 HO; iintro ⟨HH2, HO⟩
  iapply (Wp_ret c); iapply Hk
  isplitl [HQ2]; · iexact HQ2
  isplitl [HO]; · iexact HO
  isplitl [HA]; · iexact HA
  isplitl [HQ3]; · iexact HQ3
  iexact HH2

end Cert.CrossAttn

end
-- ==== Proof.Body3.lean ====
/-
  The last parts of the body: the rest of the exchanges and the output.
-/
module

public import proofs.«01_k».proof.Proof.Body2

@[expose] public section

noncomputable section

namespace Cert.CrossAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3 eq_ix2 eq_ix3)

variable {F : FTy → Type} [FloatOps F]

local notation "𝕄" => MT nD τ sig Unit (Elt F) ℕ UU ℕ

variable (I : Dev nD → Inp F) (K : Names) (c : Dev nD)

theorem part15 (v3 w' : BitVec 32) {Q} :
    env (sv I) K ⊢ iprop(sl3 (sv I) c (.inl 2) -∗ owe (F := F) c 8 -∗ OT c I 0 -∗ sl2 (F := F) c (.inl 3)
      -∗ ((sl4 (sv I) c (.inl 2) ∗ owe (F := F) c 8 ∗ OT c I 1 ∗ sl3 (sv I) c (.inl 3)) -∗ Q ⟨⟩)
      -∗ Wp c (run k0_part15 v3 w') Q) := by
  simp only [run, k0_part15_eq_skeleton]; unfold k0_part15_skel
  simp only [Prog.lift, Prog.bind_op, Prog.bind_ret, Prog.pure_eq_ret]
  iintro #He HH2 HO HT HH3 Hk
  iapply (wait_rcv (sv I) K c (.inl 2) 8 (by decide)) $$ He HH2 HO; iintro ⟨HH2, HO⟩
  iapply (loadS_H (sv I) c 2) $$ HH2; iintro HH2
  iapply (loadR_H (sv I) c 2) $$ HH2; iintro HH2
  iapply (load_OT I c 0) $$ HT; iintro %w HT
  iapply (store_384 I c 0 (by decide) rfl) $$ HT; iintro HT
  iapply (wait_snd (sv I) K c (.inl 3) 8) $$ He HH3 HO; iintro ⟨HH3, HO⟩
  iapply (Wp_ret c); iapply Hk
  isplitl [HH2]; · iexact HH2
  isplitl [HO]; · iexact HO
  isplitl [HT]; · iexact HT
  iexact HH3

theorem part16 (v3 : BitVec 32) {Q} :
    env (sv I) K ⊢ iprop(sl3 (sv I) c (.inl 3) -∗ owe (F := F) c 8 -∗ OT c I 1 -∗ sl2 (F := F) c (.inr 0)
      -∗ ((sl4 (sv I) c (.inl 3) ∗ owe (F := F) c 8 ∗ OT c I 2 ∗ sl3 (sv I) c (.inr 0)) -∗ Q ⟨⟩)
      -∗ Wp c (run k0_part16 v3) Q) := by
  simp only [run, k0_part16_eq_skeleton]; unfold k0_part16_skel
  simp only [Prog.lift, Prog.bind_op, Prog.bind_ret, Prog.pure_eq_ret]
  iintro #He HH3 HO HT HQ0 Hk
  iapply (wait_rcv (sv I) K c (.inl 3) 8 (by decide)) $$ He HH3 HO; iintro ⟨HH3, HO⟩
  iapply (loadS_H (sv I) c 3) $$ HH3; iintro HH3
  iapply (loadR_H (sv I) c 3) $$ HH3; iintro HH3
  iapply (load_OT I c 1) $$ HT; iintro %w HT
  iapply (store_384 I c 1 (by decide) rfl) $$ HT; iintro HT
  iapply (wait_snd (sv I) K c (.inr 0) 8) $$ He HQ0 HO; iintro ⟨HQ0, HO⟩
  iapply (Wp_ret c); iapply Hk
  isplitl [HH3]; · iexact HH3
  isplitl [HO]; · iexact HO
  isplitl [HT]; · iexact HT
  iexact HQ0

theorem part17 (v4 : BitVec 32) {Q} :
    env (sv I) K ⊢ iprop(sl3 (sv I) c (.inr 0) -∗ owe (F := F) c 8 -∗ sl0 (F := F) c (.inr 4) -∗ sl2 (F := F) c (.inr 1)
      -∗ ((sl4 (sv I) c (.inr 0) ∗ owe (F := F) c 9 ∗ sl2 (F := F) c (.inr 4) ∗ sl3 (sv I) c (.inr 1)) -∗ Q ⟨⟩)
      -∗ Wp c (run k0_part17 c v4) Q) := by
  simp only [run, k0_part17_eq_skeleton]; unfold k0_part17_skel
  simp only [Prog.lift, Prog.bind_op, Prog.bind_ret, Prog.pure_eq_ret]
  iintro #He HQ0 HO HQ4 HQ1 Hk
  iapply (wait_rcv (sv I) K c (.inr 0) 8 (by decide)) $$ He HQ0 HO; iintro ⟨HQ0, HO⟩
  iapply (loadS_Q (sv I) c 0) $$ HQ0; iintro HQ0
  iapply (loadR_Q (sv I) c 0) $$ HQ0; iintro HQ0
  iapply (load0_Q c 4) $$ HQ4; iintro %v HQ4
  iapply (store_Q (sv I) c 4 rfl) $$ HQ4; iintro HQ4
  iapply (start_slot (sv I) K c (.inr 4) 8 rfl _ (dev11_eq c)) $$ He HQ4 HO; iintro ⟨HQ4, HO⟩
  iapply (wait_snd (sv I) K c (.inr 1) 9) $$ He HQ1 HO; iintro ⟨HQ1, HO⟩
  iapply (Wp_ret c); iapply Hk
  isplitl [HQ0]; · iexact HQ0
  isplitl [HO]; · iexact HO
  isplitl [HQ4]; · iexact HQ4
  iexact HQ1

theorem part18 (v3 v4 : BitVec 32) {Q} :
    env (sv I) K ⊢ iprop(sl3 (sv I) c (.inr 1) -∗ owe (F := F) c 9 -∗ sl0 (F := F) c (.inr 5)
      -∗ ((sl4 (sv I) c (.inr 1) ∗ owe (F := F) c 10 ∗ sl2 (F := F) c (.inr 5)) -∗ Q ⟨⟩)
      -∗ Wp c (run k0_part18 c v3 v4) Q) := by
  simp only [run, k0_part18_eq_skeleton]; unfold k0_part18_skel
  simp only [Prog.lift, Prog.bind_op, Prog.bind_ret, Prog.pure_eq_ret]
  iintro #He HQ1 HO HQ5 Hk
  iapply (wait_rcv (sv I) K c (.inr 1) 9 (by decide)) $$ He HQ1 HO; iintro ⟨HQ1, HO⟩
  iapply (loadS_Q (sv I) c 1) $$ HQ1; iintro HQ1
  iapply (loadR_Q (sv I) c 1) $$ HQ1; iintro HQ1
  iapply (load0_Q c 5) $$ HQ5; iintro %v HQ5
  iapply (store_Q (sv I) c 5 rfl) $$ HQ5; iintro HQ5
  iapply (start_slot (sv I) K c (.inr 5) 9 rfl _ (dev12_eq c)) $$ He HQ5 HO; iintro ⟨HQ5, HO⟩
  iapply (Wp_ret c); iapply Hk
  isplitl [HQ1]; · iexact HQ1
  isplitl [HO]; · iexact HO
  iexact HQ5

theorem part19 (v3 v4 : BitVec 32) {Q} :
    env (sv I) K ⊢ iprop(sl2 (F := F) c (.inr 2) -∗ owe (F := F) c 10 -∗ sl0 (F := F) c (.inr 6)
      -∗ ((sl4 (sv I) c (.inr 2) ∗ owe (F := F) c 10 ∗ sl1 (sv I) c (.inr 6)) -∗ Q ⟨⟩)
      -∗ Wp c (run k0_part19 v3 v4) Q) := by
  simp only [run, k0_part19_eq_skeleton]; unfold k0_part19_skel
  simp only [Prog.lift, Prog.bind_op, Prog.bind_ret, Prog.pure_eq_ret]
  iintro #He HQ2 HO HQ6 Hk
  iapply (wait_snd (sv I) K c (.inr 2) 10) $$ He HQ2 HO; iintro ⟨HQ2, HO⟩
  iapply (wait_rcv (sv I) K c (.inr 2) 10 (by decide)) $$ He HQ2 HO; iintro ⟨HQ2, HO⟩
  iapply (loadS_Q (sv I) c 2) $$ HQ2; iintro HQ2
  iapply (loadR_Q (sv I) c 2) $$ HQ2; iintro HQ2
  iapply (load0_Q c 6) $$ HQ6; iintro %v HQ6
  iapply (store_Q (sv I) c 6 rfl) $$ HQ6; iintro HQ6
  iapply (Wp_ret c); iapply Hk
  isplitl [HQ2]; · iexact HQ2
  isplitl [HO]; · iexact HO
  iexact HQ6

theorem part20 (v4 : BitVec 32) {Q} :
    env (sv I) K ⊢ iprop(sl1 (sv I) c (.inr 6) -∗ owe (F := F) c 10 -∗ sl2 (F := F) c (.inr 3) -∗ sl0 (F := F) c (.inr 7)
      -∗ (∀ v, (sl2 (F := F) c (.inr 6) ∗ owe (F := F) c 11 ∗ sl4 (sv I) c (.inr 3) ∗ sl0 (F := F) c (.inr 7)) -∗ Q ⟨k0_pay55 (sv I c (.inr 3)) (rv I c (.inr 3)), v⟩)
      -∗ Wp c (run k0_part20 c v4) Q) := by
  simp only [run, k0_part20_eq_skeleton]; unfold k0_part20_skel
  simp only [Prog.lift, Prog.bind_op, Prog.bind_ret, Prog.pure_eq_ret]
  iintro #He HQ6 HO HQ3 HQ7 Hk
  iapply (start_slot (sv I) K c (.inr 6) 10 rfl _ (dev13_eq c)) $$ He HQ6 HO; iintro ⟨HQ6, HO⟩
  iapply (wait_snd (sv I) K c (.inr 3) 11) $$ He HQ3 HO; iintro ⟨HQ3, HO⟩
  iapply (wait_rcv (sv I) K c (.inr 3) 11 (by decide)) $$ He HQ3 HO; iintro ⟨HQ3, HO⟩
  iapply (loadS_Q (sv I) c 3) $$ HQ3; iintro HQ3
  iapply (loadR_Q (sv I) c 3) $$ HQ3; iintro HQ3
  iapply (load0_Q c 7) $$ HQ7; iintro %v HQ7
  iapply (Wp_ret c); iapply Hk
  isplitl [HQ6]; · iexact HQ6
  isplitl [HO]; · iexact HO
  isplitl [HQ3]; · iexact HQ3
  iexact HQ7

theorem part21 (v3 v4 : BitVec 32) (v : Vec F S1x256x192 .bf16) {Q} :
    env (sv I) K ⊢ iprop(sl0 (F := F) c (.inr 7) -∗ owe (F := F) c 11 -∗ sl2 (F := F) c (.inr 4)
      -∗ ((sl2 (F := F) c (.inr 7) ∗ owe (F := F) c 12 ∗ sl4 (sv I) c (.inr 4)) -∗ Q ⟨⟩)
      -∗ Wp c (run k0_part21 c v3 v4 (k0_pay55 (sv I c (.inr 3)) (rv I c (.inr 3))) v) Q) := by
  simp only [run, k0_part21_eq_skeleton]; unfold k0_part21_skel
  simp only [Prog.lift, Prog.bind_op, Prog.bind_ret, Prog.pure_eq_ret]
  iintro #He HQ7 HO HQ4 Hk
  iapply (store_Q (sv I) c 7 rfl) $$ HQ7; iintro HQ7
  iapply (start_slot (sv I) K c (.inr 7) 11 rfl _ (dev14_eq c)) $$ He HQ7 HO; iintro ⟨HQ7, HO⟩
  iapply (wait_snd (sv I) K c (.inr 4) 12) $$ He HQ4 HO; iintro ⟨HQ4, HO⟩
  iapply (wait_rcv (sv I) K c (.inr 4) 12 (by decide)) $$ He HQ4 HO; iintro ⟨HQ4, HO⟩
  iapply (Wp_ret c); iapply Hk
  isplitl [HQ7]; · iexact HQ7
  isplitl [HO]; · iexact HO
  iexact HQ4

theorem part22 (v3 : BitVec 32) {Q} :
    env (sv I) K ⊢ iprop(sl4 (sv I) c (.inr 4) -∗ OT c I 2 -∗ sl2 (F := F) c (.inr 5) -∗ owe (F := F) c 12
      -∗ ((sl4 (sv I) c (.inr 4) ∗ OT c I 3 ∗ sl4 (sv I) c (.inr 5) ∗ owe (F := F) c 12) -∗ Q (k0_pay58 (sv I c (.inr 5))))
      -∗ Wp c (run k0_part22 v3) Q) := by
  simp only [run, k0_part22_eq_skeleton]; unfold k0_part22_skel
  simp only [Prog.lift, Prog.bind_op, Prog.bind_ret, Prog.pure_eq_ret]
  iintro #He HQ4 HT HQ5 HO Hk
  iapply (loadS_Q (sv I) c 4) $$ HQ4; iintro HQ4
  iapply (loadR_Q (sv I) c 4) $$ HQ4; iintro HQ4
  iapply (load_OT I c 2) $$ HT; iintro %w HT
  iapply (store_192 I c 0 (by decide) rfl) $$ HT; iintro HT
  iapply (wait_snd (sv I) K c (.inr 5) 12) $$ He HQ5 HO; iintro ⟨HQ5, HO⟩
  iapply (wait_rcv (sv I) K c (.inr 5) 12 (by decide)) $$ He HQ5 HO; iintro ⟨HQ5, HO⟩
  iapply (loadS_Q (sv I) c 5) $$ HQ5; iintro HQ5
  iapply (Wp_ret c); iapply Hk
  isplitl [HQ4]; · iexact HQ4
  isplitl [HT]; · iexact HT
  isplitl [HQ5]; · iexact HQ5
  iexact HO

theorem part23 (v4 : BitVec 32) {Q} :
    env (sv I) K ⊢ iprop(sl4 (sv I) c (.inr 5) -∗ OT c I 3 -∗ sl2 (F := F) c (.inr 6) -∗ owe (F := F) c 12
      -∗ ((sl4 (sv I) c (.inr 5) ∗ OT c I 4 ∗ sl4 (sv I) c (.inr 6) ∗ owe (F := F) c 12) -∗ Q ⟨k0_pay60 (sv I c (.inr 6)), k0_pay61 (rv I c (.inr 6))⟩)
      -∗ Wp c (run k0_part23 v4 (k0_pay58 (sv I c (.inr 5)))) Q) := by
  simp only [run, k0_part23_eq_skeleton]; unfold k0_part23_skel
  simp only [Prog.lift, Prog.bind_op, Prog.bind_ret, Prog.pure_eq_ret]
  iintro #He HQ5 HT HQ6 HO Hk
  iapply (loadR_Q (sv I) c 5) $$ HQ5; iintro HQ5
  iapply (load_OT I c 3) $$ HT; iintro %w HT
  iapply (store_192 I c 1 (by decide) rfl) $$ HT; iintro HT
  iapply (wait_snd (sv I) K c (.inr 6) 12) $$ He HQ6 HO; iintro ⟨HQ6, HO⟩
  iapply (wait_rcv (sv I) K c (.inr 6) 12 (by decide)) $$ He HQ6 HO; iintro ⟨HQ6, HO⟩
  iapply (loadS_Q (sv I) c 6) $$ HQ6; iintro HQ6
  iapply (loadR_Q (sv I) c 6) $$ HQ6; iintro HQ6
  iapply (Wp_ret c); iapply Hk
  isplitl [HQ5]; · iexact HQ5
  isplitl [HT]; · iexact HT
  isplitl [HQ6]; · iexact HQ6
  iexact HO

theorem part24 (v3 : BitVec 32) {Q} :
    env (sv I) K ⊢ iprop(OT c I 4 -∗ sl2 (F := F) c (.inr 7) -∗ owe (F := F) c 12
      -∗ ((OT c I 5 ∗ sl4 (sv I) c (.inr 7) ∗ owe (F := F) c 12) -∗ Q (k0_pay63 (sv I c (.inr 7)) (rv I c (.inr 7))))
      -∗ Wp c (run k0_part24 v3 (k0_pay60 (sv I c (.inr 6))) (k0_pay61 (rv I c (.inr 6)))) Q) := by
  simp only [run, k0_part24_eq_skeleton]; unfold k0_part24_skel
  simp only [Prog.lift, Prog.bind_op, Prog.bind_ret, Prog.pure_eq_ret]
  iintro #He HT HQ7 HO Hk
  iapply (load_OT I c 4) $$ HT; iintro %w HT
  iapply (store_192 I c 2 (by decide) rfl) $$ HT; iintro HT
  iapply (wait_snd (sv I) K c (.inr 7) 12) $$ He HQ7 HO; iintro ⟨HQ7, HO⟩
  iapply (wait_rcv (sv I) K c (.inr 7) 12 (by decide)) $$ He HQ7 HO; iintro ⟨HQ7, HO⟩
  iapply (loadS_Q (sv I) c 7) $$ HQ7; iintro HQ7
  iapply (loadR_Q (sv I) c 7) $$ HQ7; iintro HQ7
  iapply (Wp_ret c); iapply Hk
  isplitl [HT]; · iexact HT
  isplitl [HQ7]; · iexact HQ7
  iexact HO

end Cert.CrossAttn

end
-- ==== Proof.Body4.lean ====
/-
  The whole body of a device: from its inputs, the barrier's and the slots' tokens to its output.
-/
module

public import proofs.«01_k».proof.Proof.Body3

@[expose] public section

noncomputable section

namespace Cert.CrossAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3 eq_ix2 eq_ix3)

variable {F : FTy → Type} [FloatOps F]

local notation "𝕄" => MT nD τ sig Unit (Elt F) ℕ UU ℕ

variable (I : Dev nD → Inp F) (K : Names) (c : Dev nD)

/-- A slot before the barrier: the send buffer, the tokens of the slot's two duties, and what it needs to wait. -/
def slI (s : Slot) : sProp 𝕄 :=
  iprop(any_ (F := F) c (sndM s) ∗ dutyTok ER (sndCell c s) 0 false ∗ dutyTok ER (rcvCell (pr c (link s)) s) 0 false
    ∗ reached ER (sndCell c s) 0 ∗ atPos ER (sndCell c s) 0 ∅ 0 ∗ atPos ER (rcvCell c s) 0 ∅ 0 ∗ cred (tallyAt (rcvCell c s) () (N s)))

omit [FloatOps F] in
theorem slI_sl0 (s : Slot) :
    iprop(slI (F := F) c s ∗ any_ (F := F) (pr c (link s)) (rcvM s) ∗ reached ER (rcvCell (pr c (link s)) s) 0) ⊢ sl0 (F := F) c s := by
  unfold slI sl0 tok0
  iintro ⟨⟨H, Ht, Ht', Hr, Ha, Ha', Hc⟩, Hp, Hr'⟩
  iframe

omit [FloatOps F] in
theorem slots_open :
    iprop(bigSep Finset.univ (slI (F := F) c)
      ∗ bigSep Finset.univ fun s : Slot => iprop(any_ (F := F) (pr c (link s)) (rcvM s) ∗ reached ER (rcvCell (pr c (link s)) s) 0))
      ⊢ iprop(sl0 (F := F) c (.inl 0) ∗ sl0 (F := F) c (.inl 1) ∗ sl0 (F := F) c (.inl 2) ∗ sl0 (F := F) c (.inl 3) ∗ sl0 (F := F) c (.inr 0) ∗ sl0 (F := F) c (.inr 1) ∗ sl0 (F := F) c (.inr 2) ∗ sl0 (F := F) c (.inr 3) ∗ sl0 (F := F) c (.inr 4) ∗ sl0 (F := F) c (.inr 5) ∗ sl0 (F := F) c (.inr 6) ∗ sl0 (F := F) c (.inr 7)) := by
  refine (Entails.of_eq (BI.bigSep_sep _ _ _).symm).trans ?_
  refine (BI.bigSep_mono fun s _ => slI_sl0 c s).trans ?_
  rw [bigSep_univ_eq_bigSepL slots (by decide) (by decide)]
  exact Entails.refl _

theorem slots_close :
    iprop(sl4 (sv I) c (.inl 0) ∗ sl4 (sv I) c (.inl 1) ∗ sl4 (sv I) c (.inl 2) ∗ sl4 (sv I) c (.inl 3) ∗ sl4 (sv I) c (.inr 0) ∗ sl4 (sv I) c (.inr 1) ∗ sl4 (sv I) c (.inr 2) ∗ sl4 (sv I) c (.inr 3) ∗ sl4 (sv I) c (.inr 4) ∗ sl4 (sv I) c (.inr 5) ∗ sl4 (sv I) c (.inr 6) ∗ sl4 (sv I) c (.inr 7))
      ⊢ bigSep Finset.univ (sl4 (sv I) c) := by
  rw [bigSep_univ_eq_bigSepL slots (by decide) (by decide)]
  exact Entails.refl _

theorem OT_init : any_ c aO ⊢ OT (F := F) c I 0 := by
  unfold OT
  exact part_of_any c _ (fun i h => absurd h (by split <;> omega))

theorem Wp_bind {α β : Type} {p : Prog (TpuEff nD τ sig (Elt F) Λ₀ .tc) α} {k : α → Prog (TpuEff nD τ sig (Elt F) Λ₀ .tc) β} {Q : β → sProp 𝕄} :
    Wp c p (fun a => Wp c (k a) Q) ⊢ Wp c (p >>= k) Q := by
  unfold Wp; rw [wp_bind]

theorem Wp_lift {α β : Type} {e : TpuEff nD τ sig (Elt F) Λ₀ .tc α} {k : α → Prog (TpuEff nD τ sig (Elt F) Λ₀ .tc) β} {Q : β → sProp 𝕄} :
    Wp c (.op e k) Q ⊢ Wp c (Prog.lift e >>= k) Q := by
  simp only [Prog.lift, Prog.bind_op, Prog.bind_ret]; exact Entails.refl _

/-- What a device's body starts from, -/
def bodyPre : sProp 𝕄 :=
  iprop(ins c (I c) ∗ bar0 (F := F) c ∗ (∃ W, owes (c : Thread nD τ) (O₀ c) W) ∗ any_ (F := F) c aA ∗ any_ (F := F) c aO
    ∗ bigSep Finset.univ (slI (F := F) c))
/-- and what it ends with. -/
def bodyPost : sProp 𝕄 :=
  iprop(ins c (I c) ∗ atPos ER (barCell c) 1 ∅ 0 ∗ AT c (I c) true 8 ∗ OT c I 6 ∗ owe (F := F) c 12
    ∗ bigSep Finset.univ (sl4 (sv I) c))

theorem body {Q : PUnit → sProp 𝕄} :
    env (sv I) K ⊢ iprop(bodyPre I c -∗ (bodyPost I c -∗ Q ⟨⟩) -∗ Wp c (run cc0_body) Q) := by
  simp only [run, cc0_body_eq_skeleton]; unfold cc0_body_skel bodyPre
  iintro #He ⟨Hins, Hbar, HO, HA, HT, Hsl⟩ Hk
  iapply (Wp_bind c); iapply (part1 I K c) $$ He Hins Hbar HO; iintro %v3 %v4 ⟨Hins, Hbar, HO⟩
  unfold bar1
  icases Hbar with ⟨HaB, Hpeer⟩
  ihave Hsl := (slots_open c) $$ [Hsl Hpeer]
  · isplitl [Hsl]; · iexact Hsl
    iexact Hpeer
  icases Hsl with ⟨HH0, HH1, HH2, HH3, HQ0, HQ1, HQ2, HQ3, HQ4, HQ5, HQ6, HQ7⟩
  ihave HA := (AT_init c (I c) false) $$ HA
  ihave HT := (OT_init I c) $$ HT
  iapply (Wp_bind c); iapply (part2 I c) $$ HA; iintro HA
  iapply (Wp_bind c); iapply (part3 I c) $$ HA; iintro HA
  iapply (Wp_bind c); iapply (part4 I c) $$ HA; iintro HA
  iapply (Wp_bind c); iapply (part5 I K c v3) $$ He HA HH0 HH1 HO; iintro ⟨HA, HH0, HH1, HO⟩
  iapply (Wp_bind c); iapply (part6 I K c v4) $$ He HH1 HO Hins HA; iintro ⟨HH1, HO, Hins, HA⟩
  iapply (Wp_bind c); iapply (part7 I c) $$ HA; iintro HA
  iapply (Wp_bind c); iapply (part8 I K c v3) $$ He HA HH0 HO; iintro ⟨HA, HH0, HO⟩
  iapply (Wp_bind c); iapply (part9 I K c v4) $$ He HH2 HO HH1; iintro ⟨HH2, HO, HH1⟩
  iapply (Wp_bind c); iapply (part10 I K c v3) $$ He HH1 HO HH3; iintro ⟨HH1, HO, HH3⟩
  iapply (Wp_bind c); iapply (part11 I c) $$ HA; iintro HA
  iapply (Wp_bind c); iapply (part12 I K c v3) $$ He HA HQ0 HO; iintro ⟨HA, HQ0, HO⟩
  iapply (Wp_bind c); iapply (part13 I K c v3 v4) $$ He HQ1 HO HA HQ2; iintro ⟨HQ1, HO, HA, HQ2⟩
  iapply (Wp_bind c); iapply (part14 I K c v4) $$ He HQ2 HO HA HQ3 HH2; iintro %w ⟨HQ2, HO, HA, HQ3, HH2⟩
  iapply (Wp_bind c); iapply (part15 I K c v3 w) $$ He HH2 HO HT HH3; iintro ⟨HH2, HO, HT, HH3⟩
  iapply (Wp_bind c); iapply (part16 I K c v3) $$ He HH3 HO HT HQ0; iintro ⟨HH3, HO, HT, HQ0⟩
  iapply (Wp_bind c); iapply (part17 I K c v4) $$ He HQ0 HO HQ4 HQ1; iintro ⟨HQ0, HO, HQ4, HQ1⟩
  iapply (Wp_bind c); iapply (part18 I K c v3 v4) $$ He HQ1 HO HQ5; iintro ⟨HQ1, HO, HQ5⟩
  iapply (Wp_bind c); iapply (part19 I K c v3 v4) $$ He HQ2 HO HQ6; iintro ⟨HQ2, HO, HQ6⟩
  iapply (Wp_bind c); iapply (part20 I K c v4) $$ He HQ6 HO HQ3 HQ7; iintro %v ⟨HQ6, HO, HQ3, HQ7⟩
  iapply (Wp_bind c); iapply (part21 I K c v3 v4 v) $$ He HQ7 HO HQ4; iintro ⟨HQ7, HO, HQ4⟩
  iapply (Wp_bind c); iapply (part22 I K c v3) $$ He HQ4 HT HQ5 HO; iintro ⟨HQ4, HT, HQ5, HO⟩
  iapply (Wp_bind c); iapply (part23 I K c v4) $$ He HQ5 HT HQ6 HO; iintro ⟨HQ5, HT, HQ6, HO⟩
  iapply (Wp_bind c); iapply (part24 I K c v3) $$ He HT HQ7 HO; iintro ⟨HT, HQ7, HO⟩
  iapply (Wp_lift c)
  iapply (load_OT I c 5) $$ HT; iintro %w HT
  iapply (Wp_lift c)
  iapply (store_192 I c 3 (by decide) rfl) $$ HT; iintro HT
  iapply (Wp_ret c); iapply Hk
  unfold bodyPost
  isplitl [Hins]; · iexact Hins
  isplitl [HaB]; · iexact HaB
  isplitl [HA]; · iexact HA
  isplitl [HT]; · iexact HT
  isplitl [HO]; · iexact HO
  iapply (slots_close I c)
  iframe

end Cert.CrossAttn

end
-- ==== Proof.Cells.lean ====
/-
  A device's scratch buffers as its slots' buffers, its own counters as its slots' counters, and the two updates at the
  ends of the kernel: a slot's two cells opened from their counters, and closed again.
-/
module

public import proofs.«01_k».proof.Proof.Body4
public import Idealize.ShloMosaic.Lib.Ring

@[expose] public section

noncomputable section

namespace Cert.CrossAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3 eq_ix2 eq_ix3)
open Idealize.ShloMosaic.Ring (lead_disjoint lead_cover pointsTo_blocks pointsTo_blocks_join_exists)

variable {F : FTy → Type} [FloatOps F]

local notation "𝕄" => MT nD τ sig Unit (Elt F) ℕ UU ℕ

/-! ## The four send and receive buffers, slot by slot -/

theorem rH_disjoint (i i' : Fin 4) (h : i ≠ i') : Disjoint (rH i).set (rH i').set :=
  lead_disjoint (s := S4x256x384) 0 1 (fun i => ![i.val, 0, 0]) S1x256x384.size inbH (fun b => (Nat.one_mul _).symm) rfl i i' h
theorem rQ_disjoint (j j' : Fin 8) (h : j ≠ j') : Disjoint (rQ j).set (rQ j').set :=
  lead_disjoint (s := S8x256x192) 0 1 (fun i => ![i.val, 0, 0]) S1x256x192.size inbQ (fun b => (Nat.one_mul _).symm) rfl j j' h
theorem rH_cover : Finset.univ.biUnion (fun i => (rH i).set) = Finset.univ :=
  lead_cover (s := S4x256x384) 0 1 (fun i => ![i.val, 0, 0]) S1x256x384.size inbH (fun b => (Nat.one_mul _).symm)
    (fun b a h => by match a with | ⟨0, _⟩ => exact absurd rfl h | ⟨1, _⟩ => rfl | ⟨2, _⟩ => rfl) rfl
    (fun a h => by match a with | ⟨0, _⟩ => exact absurd rfl h | ⟨1, _⟩ => rfl | ⟨2, _⟩ => rfl) rfl
theorem rQ_cover : Finset.univ.biUnion (fun j => (rQ j).set) = Finset.univ :=
  lead_cover (s := S8x256x192) 0 1 (fun i => ![i.val, 0, 0]) S1x256x192.size inbQ (fun b => (Nat.one_mul _).symm)
    (fun b a h => by match a with | ⟨0, _⟩ => exact absurd rfl h | ⟨1, _⟩ => rfl | ⟨2, _⟩ => rfl) rfl
    (fun a h => by match a with | ⟨0, _⟩ => exact absurd rfl h | ⟨1, _⟩ => rfl | ⟨2, _⟩ => rfl) rfl

/-- A buffer of core `c`, whole, at anything. -/
abbrev whole_ (c : Dev nD) (b : Ref sig .tc) : sProp 𝕄 :=
  iprop(∃ f : Buf (Elt F) ((c : Thread nD τ).loc b), ((c : Thread nD τ).loc b) ↦{fullShare} f)

section Blocks
variable {ℓ : Loc nD τ sig} {B : Type} [Fintype B] [DecidableEq B] (J : B → Finset (Idx ℓ))
  (hd : ∀ b b', b ≠ b' → Disjoint (J b) (J b')) (hc : Finset.univ.biUnion J = Finset.univ)

include hd hc in
omit [FloatOps F] in
theorem blocks_split : iprop(∃ f : Buf (Elt F) ℓ, ℓ ↦{fullShare} f) ⊢ (bigSep Finset.univ fun b => iprop(∃ f, ℓ ↦[J b]{fullShare} f) : sProp 𝕄) := by
  iintro ⟨%f, H⟩
  iapply ((Entails.of_eq (pointsTo_blocks J hd hc f)).trans
    (BI.bigSep_mono (Ψ := fun b => iprop(∃ f, ℓ ↦[J b]{fullShare} f)) fun b _ =>
      (show (ℓ ↦[J b]{fullShare} f : sProp 𝕄) ⊢ iprop(∃ f, ℓ ↦[J b]{fullShare} f) from by iintro H; iexists f; iexact H))) $$ H

include hd hc in
theorem blocks_join : (bigSep Finset.univ fun b => iprop(∃ f, ℓ ↦[J b]{fullShare} f) : sProp 𝕄) ⊢ iprop(∃ f : Buf (Elt F) ℓ, ℓ ↦{fullShare} f) :=
  pointsTo_blocks_join_exists J hd hc (fun _ => Classical.choice inferInstance)
end Blocks

variable (c : Dev nD)

omit [FloatOps F] in
theorem sndH_eq (i : Fin 4) : any_ (F := F) c (sndM (.inl i))
    = iprop(∃ f : Buf (Elt F) ((c : Thread nD τ).loc cc0_scratch0), ((c : Thread nD τ).loc cc0_scratch0) ↦[(rH i).set]{fullShare} f) := by
  unfold any_ sndM; rw [← View.set_slice_whole cc0_scratch0 (rH i)]
omit [FloatOps F] in
theorem rcvH_eq (i : Fin 4) : any_ (F := F) c (rcvM (.inl i))
    = iprop(∃ f : Buf (Elt F) ((c : Thread nD τ).loc cc0_scratch1), ((c : Thread nD τ).loc cc0_scratch1) ↦[(rH i).set]{fullShare} f) := by
  unfold any_ rcvM; rw [← View.set_slice_whole cc0_scratch1 (rH i)]
omit [FloatOps F] in
theorem sndQ_eq (j : Fin 8) : any_ (F := F) c (sndM (.inr j))
    = iprop(∃ f : Buf (Elt F) ((c : Thread nD τ).loc cc0_scratch2), ((c : Thread nD τ).loc cc0_scratch2) ↦[(rQ j).set]{fullShare} f) := by
  unfold any_ sndM; rw [← View.set_slice_whole cc0_scratch2 (rQ j)]
omit [FloatOps F] in
theorem rcvQ_eq (j : Fin 8) : any_ (F := F) c (rcvM (.inr j))
    = iprop(∃ f : Buf (Elt F) ((c : Thread nD τ).loc cc0_scratch3), ((c : Thread nD τ).loc cc0_scratch3) ↦[(rQ j).set]{fullShare} f) := by
  unfold any_ rcvM; rw [← View.set_slice_whole cc0_scratch3 (rQ j)]

omit [FloatOps F] in
theorem pair {B : Type} [Fintype B] {Φ Ψ : B → sProp 𝕄} : iprop(bigSep Finset.univ Φ ∗ bigSep Finset.univ Ψ) ⊢ bigSep Finset.univ fun b => iprop(Φ b ∗ Ψ b) :=
  Entails.of_eq (BI.bigSep_sep _ _ _).symm
omit [FloatOps F] in
theorem unpair {B : Type} [Fintype B] {Φ Ψ : B → sProp 𝕄} : (bigSep Finset.univ fun b => iprop(Φ b ∗ Ψ b)) ⊢ iprop(bigSep Finset.univ Φ ∗ bigSep Finset.univ Ψ) :=
  Entails.of_eq (BI.bigSep_sep _ _ _)

omit [FloatOps F] in
/-- A family over the slots is one over the four and one over the eight. -/
theorem by_slot (Φ : Slot → sProp 𝕄) :
    bigSep Finset.univ Φ = iprop((bigSep Finset.univ fun i => Φ (.inl i)) ∗ bigSep Finset.univ fun j => Φ (.inr j)) := by
  rw [show (Finset.univ : Finset Slot) = Finset.univ.map ⟨Sum.inl, Sum.inl_injective⟩ ∪ Finset.univ.map ⟨Sum.inr, Sum.inr_injective⟩ by decide,
    BI.bigSep_union (by decide), BI.bigSep_map, BI.bigSep_map]
  rfl

omit [FloatOps F] in
theorem snd_split : iprop(whole_ (F := F) c cc0_scratch0 ∗ whole_ (F := F) c cc0_scratch2) ⊢ bigSep Finset.univ fun s : Slot => any_ (F := F) c (sndM s) := by
  rw [by_slot]
  rw [show (fun i => any_ (F := F) c (sndM (.inl i))) = _ from funext (sndH_eq c), show (fun j => any_ (F := F) c (sndM (.inr j))) = _ from funext (sndQ_eq c)]
  exact BI.sep_mono (blocks_split _ rH_disjoint rH_cover) (blocks_split _ rQ_disjoint rQ_cover)
omit [FloatOps F] in
theorem rcv_split : iprop(whole_ (F := F) c cc0_scratch1 ∗ whole_ (F := F) c cc0_scratch3) ⊢ bigSep Finset.univ fun s : Slot => any_ (F := F) c (rcvM s) := by
  rw [by_slot]
  rw [show (fun i => any_ (F := F) c (rcvM (.inl i))) = _ from funext (rcvH_eq c), show (fun j => any_ (F := F) c (rcvM (.inr j))) = _ from funext (rcvQ_eq c)]
  exact BI.sep_mono (blocks_split _ rH_disjoint rH_cover) (blocks_split _ rQ_disjoint rQ_cover)
theorem snd_join : (bigSep Finset.univ fun s : Slot => any_ (F := F) c (sndM s)) ⊢ iprop(whole_ (F := F) c cc0_scratch0 ∗ whole_ (F := F) c cc0_scratch2) := by
  rw [by_slot]
  rw [show (fun i => any_ (F := F) c (sndM (.inl i))) = _ from funext (sndH_eq c), show (fun j => any_ (F := F) c (sndM (.inr j))) = _ from funext (sndQ_eq c)]
  exact BI.sep_mono (blocks_join _ rH_disjoint rH_cover) (blocks_join _ rQ_disjoint rQ_cover)
theorem rcv_join : (bigSep Finset.univ fun s : Slot => any_ (F := F) c (rcvM s)) ⊢ iprop(whole_ (F := F) c cc0_scratch1 ∗ whole_ (F := F) c cc0_scratch3) := by
  rw [by_slot]
  rw [show (fun i => any_ (F := F) c (rcvM (.inl i))) = _ from funext (rcvH_eq c), show (fun j => any_ (F := F) c (rcvM (.inr j))) = _ from funext (rcvQ_eq c)]
  exact BI.sep_mono (blocks_join _ rH_disjoint rH_cover) (blocks_join _ rQ_disjoint rQ_cover)

omit [FloatOps F] in
/-- The attention buffer is whole. -/
theorem att_whole : whole_ (F := F) c cc0_scratch4 = any_ (F := F) c aA := by
  unfold any_ aA; rw [show (Memref.whole cc0_scratch4 : Memref sig .tc .vmem S256x512 .bf16).view.set = Finset.univ from View.set_whole cc0_scratch4]

/-! ## The device's own counters -/

/-- Its own DMA semaphores: a send one and a receive one per slot. -/
abbrev own : Bool × Slot → SemLoc sig
  | (false, s) => .dma (sndS s)
  | (true, s) => .dma (rcvS s)

theorem ownFacts : Pipeline.OwnSemFacts spec0 own := by decide

omit [FloatOps F] in
theorem by_side (Φ : Bool × Slot → sProp 𝕄) :
    bigSep Finset.univ Φ = bigSep Finset.univ fun s : Slot => iprop(Φ (false, s) ∗ Φ (true, s)) := by
  rw [bigSep_univ_prod, bigSep_univ_eq_bigSepL [false, true] (by decide) (by decide)]
  exact (BI.bigSep_sep _ _ _).symm

omit [FloatOps F] in
theorem own_eq : (Pipeline.ownSems0 own c : sProp 𝕄) = bigSep Finset.univ fun s : Slot => iprop(semVal (sndCell c s) 0 ∗ semVal (rcvCell c s) 0) :=
  by_side fun k => (semVal ((c : Thread nD τ), own k) 0 : sProp 𝕄)

/-! ## Opening and closing the cells of a slot -/

variable (sv : Dev nD → (s : Slot) → (shS s).Idx → Elt F .bf16) (K : Names)

/-- A slot as the launch deals it: the rights to open its two cells, the tokens of its two duties, its credit. -/
def slD (s : Slot) : sProp 𝕄 :=
  iprop((openTok ER (sndCell c s) ∗ openTok ER (rcvCell c s)) ∗ dutyTok ER (sndCell c s) 0 false ∗ dutyTok ER (rcvCell (pr c (link s)) s) 0 false
    ∗ cred (tallyAt (rcvCell c s) () (N s)))
/-- The same with the cells open. -/
def slE (s : Slot) : sProp 𝕄 :=
  iprop((dutyTok ER (sndCell c s) 0 false ∗ dutyTok ER (rcvCell (pr c (link s)) s) 0 false
    ∗ reached ER (sndCell c s) 0 ∗ atPos ER (sndCell c s) 0 ∅ 0 ∗ atPos ER (rcvCell c s) 0 ∅ 0 ∗ cred (tallyAt (rcvCell c s) () (N s)))
    ∗ reached ER (rcvCell c s) 0)

theorem slot_open (s : Slot) :
    iprop(env sv K ∗ slD (F := F) c s ∗ semVal (sndCell c s) 0 ∗ semVal (rcvCell c s) 0) ⊢ (|={Set.univ}=> slE (F := F) c s : sProp 𝕄) := by
  unfold env slD slE
  iintro ⟨⟨-, #HS, #HR, -⟩, ⟨⟨HoS, HoR⟩, Ht, Ht', Hc⟩, Hs, Hr⟩
  ihave #HIs := HS $$ %c %s
  ihave #HIr := HR $$ %c %s
  imod (Rounds.cell_open ER (Rd sv) (g := sndCell c s) (Set.mem_univ (K (c, some (false, s))))) $$ [HoS Hs] with ⟨HaS, HrS⟩
  · isplitr; · iexact HIs
    isplitl [HoS] <;> iassumption
  imod (Rounds.cell_open ER (Rd sv) (g := rcvCell c s) (Set.mem_univ (K (c, some (true, s))))) $$ [HoR Hr] with ⟨HaR, HrR⟩
  · isplitr; · iexact HIr
    isplitl [HoR] <;> iassumption
  imodintro
  iframe

theorem slot_close (s : Slot) :
    iprop(env sv K ∗ sl4 sv c s)
      ⊢ (|={Set.univ}=> ((any_ (F := F) c (sndM s) ∗ any_ (F := F) c (rcvM s)) ∗ semVal (sndCell c s) 0 ∗ semVal (rcvCell c s) 0) : sProp 𝕄) := by
  unfold env sl4
  iintro ⟨⟨-, #HS, #HR, -⟩, Hs, Hr, HaS, HaR⟩
  ihave #HIs := HS $$ %c %s
  ihave #HIr := HR $$ %c %s
  imod (Rounds.cell_close ER (Rd sv) (Set.mem_univ (K (c, some (false, s)))) id (duties_later sv (sndCell c s))) $$ [HaS] with Hs0
  · isplitr; · iexact HIs
    iexact HaS
  imod (Rounds.cell_close ER (Rd sv) (Set.mem_univ (K (c, some (true, s)))) id (duties_later sv (rcvCell c s))) $$ [HaR] with Hr0
  · isplitr; · iexact HIr
    iexact HaR
  imodintro
  isplitl [Hs Hr]
  · isplitl [Hs]
    · iapply (at_any c (sndM s) _) $$ Hs
    · iapply (at_any c (rcvM s) _) $$ Hr
  isplitl [Hs0] <;> iassumption

theorem bar_close : iprop(env sv K ∗ atPos ER (barCell c) 1 ∅ 0) ⊢ (|={Set.univ}=> semVal (barCell c) 0 : sProp 𝕄) := by
  unfold env
  iintro ⟨⟨#HB, -⟩, Ha⟩
  ihave #HI := HB $$ %c
  imod (Rounds.cell_close ER (Rd sv) (Set.mem_univ (K (c, none))) id (duties_later sv (barCell c))) $$ [Ha] with H
  · isplitr; · iexact HI
    iexact Ha
  imodintro; iexact H

/-- Every slot opened, -/
theorem slots_open_all :
    iprop(env sv K ∗ bigSep Finset.univ (slD (F := F) c) ∗ Pipeline.ownSems0 own c) ⊢ (|={Set.univ}=> bigSep Finset.univ (slE (F := F) c) : sProp 𝕄) := by
  rw [own_eq]
  refine BIBase.Entails.trans ?_ (BI.bigSep_fupd _ _)
  iintro ⟨#He, H⟩
  iapply (bigSep_with_persistent (R := env sv K) (Φ := fun s => iprop(slD (F := F) c s ∗ semVal (sndCell c s) 0 ∗ semVal (rcvCell c s) 0))
    fun s _ => slot_open c sv K s)
  isplitr; · iexact He
  iapply pair; iexact H

/-- and closed. -/
theorem slots_close_all :
    iprop(env sv K ∗ bigSep Finset.univ (sl4 sv c))
      ⊢ (|={Set.univ}=> ((bigSep Finset.univ fun s : Slot => any_ (F := F) c (sndM s)) ∗ (bigSep Finset.univ fun s : Slot => any_ (F := F) c (rcvM s))
        ∗ Pipeline.ownSems0 own c) : sProp 𝕄) := by
  rw [own_eq]
  iintro ⟨#He, H⟩
  imod ((bigSep_with_persistent (R := env sv K) (Φ := fun s => sl4 sv c s) fun s _ => slot_close c sv K s).trans (BI.bigSep_fupd _ _)) $$ [H] with H
  · isplitr; · iexact He
    iexact H
  imodintro
  ihave H := unpair $$ H
  icases H with ⟨H, H'⟩
  ihave H := unpair $$ H
  icases H with ⟨H1, H2⟩
  isplitl [H1]; · iexact H1
  isplitl [H2]; · iexact H2
  iexact H'

end Cert.CrossAttn

end
-- ==== Proof.Region.lean ====
/-
  The kernel region: its proof data (the arrays as the region finds them, the output at the value the body computes) and the
  body's obligation, from the body's theorem.
-/
module

public import proofs.«01_k».proof.Proof.Cells
public import proofs.«01_k».proof.Proof.Gen.KernelIdeal.Frame

@[expose] public section

noncomputable section

namespace Cert.CrossAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)

/-- A device's inputs, as the region's windows read them. -/
def inp (c : Dev nD) : Inp F :=
  ⟨iblk m c 0 t0_0, iblk m c 1 t0_0, iblk m c 2 t0_0, iblk m c 3 t0_0, iblk m c 4 t0_0⟩

/-- What the body needs of the protocol, beside the counters' ghost state: all in the region's invariant before its one point; -/
def Φ₀ (c : Dev nD) : sProp 𝕄 :=
  iprop((∃ K, env (sv (inp m)) K ∗ bar0 (F := F) c ∗ any_ (F := F) c aA ∗ bigSep Finset.univ (slI (F := F) c)) ∗ ∃ r, prngReg c r)
/-- and after it. -/
def Φ₁ (c : Dev nD) : sProp 𝕄 :=
  iprop(Pipeline.scopedRest spec0 c ∗ (∃ r, prngReg c r) ∗ Pipeline.ownSems0 own c ∗ semVal (barCell c) 0)

/-- The region's proof data: the output's staging buffer ends at the value of the body. -/
def dat (c : Dev nD) : Dat τ (Elt F) Unit ℕ UU ℕ cfg0 c where
  A w := V m c (Pipeline.arrRef spec0 w)
  after w t := match w with
    | 0 => iblk m c 0 t | 1 => iblk m c 1 t | 2 => iblk m c 2 t | 3 => iblk m c 3 t | 4 => iblk m c 4 t
    | 5 => outv (inp m) c
    | ⟨_ + 6, h⟩ => absurd h (Nat.not_lt.2 (Nat.le_add_left _ _))
  Φ t := if t.val = 0 then Φ₀ m c else Φ₁ c
  q _ := fullShare
  owed t := if t.val = 0 then O₀ c else 0

theorem owed_first (c : Dev nD) : (dat m c).owed t0_0.castSucc = O₀ c := by dsimp only [dat]; exact if_pos rfl
theorem owed_last (c : Dev nD) : (dat m c).owed t0_0.succ = 0 := by dsimp only [dat]; exact if_neg (Nat.succ_ne_zero _)
theorem Φ_first (c : Dev nD) : (dat m c).Φ t0_0.castSucc = Φ₀ m c := by dsimp only [dat]; exact if_pos rfl
theorem Φ_last (c : Dev nD) : (dat m c).Φ t0_0.succ = Φ₁ c := by dsimp only [dat]; exact if_neg (Nat.succ_ne_zero _)

theorem before0 (c : Dev nD) (d) : at_ c aX ((dat m c).before 0 t0_0 d) ⊢ at_ c aX (inp m c).x :=
  Entails.of_eq (congrArg (at_ c aX) (((dat m c).before_in_eq_fetched 0 rfl (fun _ => rfl) (fun _ _ _ => rfl) (fun _ => rfl) t0_0 d).trans rfl))
theorem before1 (c : Dev nD) (d) : at_ c aWq ((dat m c).before 1 t0_0 d) ⊢ at_ c aWq (inp m c).wq :=
  Entails.of_eq (congrArg (at_ c aWq) (((dat m c).before_in_eq_fetched 1 rfl (fun _ => rfl) (fun _ _ _ => rfl) (fun _ => rfl) t0_0 d).trans rfl))
theorem before2 (c : Dev nD) (d) : at_ c aWo ((dat m c).before 2 t0_0 d) ⊢ at_ c aWo (inp m c).wo :=
  Entails.of_eq (congrArg (at_ c aWo) (((dat m c).before_in_eq_fetched 2 rfl (fun _ => rfl) (fun _ _ _ => rfl) (fun _ => rfl) t0_0 d).trans rfl))
theorem before3 (c : Dev nD) (d) : at_ c aK ((dat m c).before 3 t0_0 d) ⊢ at_ c aK (inp m c).k :=
  Entails.of_eq (congrArg (at_ c aK) (((dat m c).before_in_eq_fetched 3 rfl (fun _ => rfl) (fun _ _ _ => rfl) (fun _ => rfl) t0_0 d).trans rfl))
theorem before4 (c : Dev nD) (d) : at_ c aV ((dat m c).before 4 t0_0 d) ⊢ at_ c aV (inp m c).v :=
  Entails.of_eq (congrArg (at_ c aV) (((dat m c).before_in_eq_fetched 4 rfl (fun _ => rfl) (fun _ _ _ => rfl) (fun _ => rfl) t0_0 d).trans rfl))

omit [FloatOps F] in
theorem owesAt_intro (c : Dev nD) (dt : Dat τ (Elt F) Unit ℕ UU ℕ cfg0 c) (t : Fin (cfg0.N + 1)) (O : CellTallies nD τ sig Unit) (h : dt.owed t = O)
    (hr : dt.recorded t = Set.univ) : iprop(∃ W, owes (c : Thread nD τ) O W) ⊢ (dt.owesAt () t : sProp 𝕄) := by
  unfold Dat.owesAt Pipeline.owesWithin Dat.bound; rw [h, hr]
  iintro ⟨%W, HO⟩; iexists W; isplitr
  · ipureintro; exact fun _ _ => Or.inl trivial
  · iexact HO
omit [FloatOps F] in
theorem owesAt_elim (c : Dev nD) (dt : Dat τ (Elt F) Unit ℕ UU ℕ cfg0 c) (t : Fin (cfg0.N + 1)) (O : CellTallies nD τ sig Unit) (h : dt.owed t = O) :
    (dt.owesAt () t : sProp 𝕄) ⊢ iprop(∃ W, owes (c : Thread nD τ) O W) := by
  unfold Dat.owesAt Pipeline.owesWithin; rw [h]
  iintro ⟨%W, -, HO⟩; iexists W; iexact HO

theorem scoped_eq (c : Dev nD) : (Pipeline.scopedRest spec0 c : sProp 𝕄)
    = iprop(whole_ (F := F) c cc0_scratch0 ∗ whole_ (F := F) c cc0_scratch1 ∗ whole_ (F := F) c cc0_scratch2 ∗ whole_ (F := F) c cc0_scratch3
      ∗ whole_ (F := F) c cc0_scratch4) := scopedRest0_eq c

theorem OT_all (I : Dev nD → Inp F) (c : Dev nD) : OT c I 6 ⊢ at_ c aO (outv I c) := by
  unfold OT
  refine part_all c fun i => ?_
  have h : (i 2).val < 768 := (i 2).isLt
  split <;> omega

theorem AT_any (I : Inp F) (c : Dev nD) (b : Bool) (n : ℕ) : AT c I b n ⊢ any_ (F := F) c aA := by
  unfold AT part any_
  iintro ⟨%f, -, H⟩; iexists f; iexact H

/-- After the body: the cells closed, the scratch buffers whole again. -/
theorem body_end (K : Names) (c : Dev nD) :
    iprop(env (sv (inp m)) K ∗ bodyPost (inp m) c ∗ ∃ r, prngReg c r)
      ⊢ (|={Set.univ}=> (Φ₁ c ∗ (∃ W, owes (c : Thread nD τ) (0 : CellTallies nD τ sig Unit) W) ∗ ins c (inp m c) ∗ at_ c aO (outv (inp m) c)) : sProp 𝕄) := by
  unfold bodyPost Φ₁ owe
  rw [due_end, scoped_eq, att_whole]
  iintro ⟨#He, ⟨Hins, HaB, HA, HT, HO, Hsl⟩, Hp⟩
  imod (bar_close c (sv (inp m)) K) $$ [HaB] with HB
  · isplitr; · iexact He
    iexact HaB
  imod (slots_close_all c (sv (inp m)) K) $$ [Hsl] with ⟨Hs, Hr, Ho⟩
  · isplitr; · iexact He
    iexact Hsl
  ihave Hs := (snd_join c) $$ Hs
  ihave Hr := (rcv_join c) $$ Hr
  icases Hs with ⟨H0, H2⟩
  icases Hr with ⟨H1, H3⟩
  imodintro
  isplitl [HA H0 H1 H2 H3 Hp Ho HB]
  · isplitl [HA H0 H1 H2 H3]
    · isplitl [H0]; · iexact H0
      isplitl [H1]; · iexact H1
      isplitl [H2]; · iexact H2
      isplitl [H3]; · iexact H3
      iapply (AT_any (inp m c) c true 8) $$ HA
    isplitl [Hp]; · iexact Hp
    isplitl [Ho]; · iexact Ho
    iexact HB
  isplitl [HO]; · iexact HO
  isplitl [Hins]; · iexact Hins
  iapply (OT_all (inp m) c) $$ HT

set_option maxRecDepth 8000 in
theorem body_obligation (c : Dev nD) : BodyObligation (dat m c) (defs₀ (F := F)) 𝒱₀ () Set.univ := fun t => by
  obtain rfl := fin_N0 t
  rw [bigSep_W0, bigSep_W0, Φ_first, Φ_last]
  show iprop(Φ₀ m c ∗ (dat m c).owesAt () t0_0.castSucc
      ∗ (∃ d, at_ c aX ((dat m c).before 0 t0_0 d)) ∗ (∃ d, at_ c aWq ((dat m c).before 1 t0_0 d)) ∗ (∃ d, at_ c aWo ((dat m c).before 2 t0_0 d))
      ∗ (∃ d, at_ c aK ((dat m c).before 3 t0_0 d)) ∗ (∃ d, at_ c aV ((dat m c).before 4 t0_0 d)) ∗ (∃ d, at_ c aO ((dat m c).before 5 t0_0 d)))
    ⊢ Wp c (run cc0_body) fun _ => iprop(Φ₁ c ∗ (dat m c).owesAt () t0_0.succ
      ∗ at_ c aX (inp m c).x ∗ at_ c aWq (inp m c).wq ∗ at_ c aWo (inp m c).wo ∗ at_ c aK (inp m c).k ∗ at_ c aV (inp m c).v ∗ at_ c aO (outv (inp m) c))
  unfold Φ₀
  iintro ⟨⟨⟨%K, #He, Hb, HA, Hsl⟩, Hp⟩, HO, ⟨%d0, H0⟩, ⟨%d1, H1⟩, ⟨%d2, H2⟩, ⟨%d3, H3⟩, ⟨%d4, H4⟩, ⟨%d5, H5⟩⟩
  ihave HO := (owesAt_elim c (dat m c) _ (O₀ c) (owed_first m c)) $$ HO
  iapply (wp_fupd _ _)
  iapply (body (inp m) K c) $$ He [Hb HA Hsl HO H0 H1 H2 H3 H4 H5]
  · unfold bodyPre ins
    isplitl [H0 H1 H2 H3 H4]
    · isplitl [H0]; · iapply (before0 m c d0) $$ H0
      isplitl [H1]; · iapply (before1 m c d1) $$ H1
      isplitl [H2]; · iapply (before2 m c d2) $$ H2
      isplitl [H3]; · iapply (before3 m c d3) $$ H3
      iapply (before4 m c d4) $$ H4
    isplitl [Hb]; · iexact Hb
    isplitl [HO]; · iexact HO
    isplitl [HA]; · iexact HA
    isplitl [H5]; · iapply (at_any c aO _) $$ H5
    iexact Hsl
  iintro H
  imod (body_end m K c) $$ [H Hp] with ⟨HΦ, HO, Hins, HT⟩
  · isplitr; · iexact He
    isplitl [H]; · iexact H
    iexact Hp
  imodintro
  isplitl [HΦ]; · iexact HΦ
  isplitl [HO]; · iapply (owesAt_intro c (dat m c) _ 0 (owed_last m c) rfl) $$ HO
  unfold ins
  icases Hins with ⟨H0, H1, H2, H3, H4⟩
  iframe

end Cert.CrossAttn

end
-- ==== Proof.Segment.lean ====
/-
  @main as two segments: the two host reshapes, then the kernel's region. The protocol's ghost state from launch rides beside the
  buffers up to the region, where the region's own counters let its cells be opened.
-/
module

public import proofs.«01_k».proof.Proof.Region
public import Idealize.ShloMosaic.Lib.Pipeline.ValueKit

@[expose] public section

noncomputable section

namespace Cert.CrossAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)

/-! ## The buffers of @main -/

/-- The buffers that live as long as @main. -/
def bufs : Finset (DevRef τ sig) := (StableHlo.tcRefs τ sig).filter fun b => ¬ b.isScoped

/-- A device's buffers at launch; -/
abbrev W₀ (c : Dev nD) : Valuation τ sig (Elt F) := fun b => m (c, b)
/-- when the region is entered; -/
def W₁ (c : Dev nD) : Valuation τ sig (Elt F) := StableHlo.after hostOps0 (W₀ m c)
/-- and when it is left: the result written. -/
def W₂ (c : Dev nD) : Valuation τ sig (Elt F) := Function.update (W₁ m c) (Proc.devRef .tc main_v3) (outv (inp m) c)

theorem W₂_v3 (c : Dev nD) : W₂ m c (Proc.devRef .tc main_v3) = outv (inp m) c := Function.update_self ..
theorem W₂_of_ne (c : Dev nD) (b : DevRef τ sig) (h : b ≠ Proc.devRef .tc main_v3) : W₂ m c b = W₁ m c b := Function.update_of_ne h ..

omit [FloatOps F] in
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The windows' arrays, and the two arguments that are none. -/
def rest : Finset (DevRef τ sig) := bufs \ Pipeline.arrRefs (τ := τ) spec0

theorem held_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) (rest) W) :=
  StableHlo.held_sub_split (c : Thread nD τ) (by decide) W

/-! ## The ghost state up to the region -/

/-- The barrier's part. -/
def barD (c : Dev nD) : sProp 𝕄 :=
  iprop(dutyTok ER (barCell (pr c false)) 0 false ∗ dutyTok ER (barCell (pr c true)) 0 true
    ∗ reached ER (barCell (pr c false)) 0 ∗ reached ER (barCell (pr c true)) 0
    ∗ atPos ER (barCell c) 0 ∅ 0 ∗ cred (tallyAt (barCell c) () 2))
/-- Before the region: the slots' cells not yet open; -/
def Tk (c : Dev nD) : sProp 𝕄 := iprop(∃ K, env (sv (inp m)) K ∗ barD (F := F) c ∗ bigSep Finset.univ (slD (F := F) c))
/-- and on entering it. -/
def Xk (c : Dev nD) : sProp 𝕄 := iprop(∃ K, env (sv (inp m)) K ∗ barD (F := F) c ∗ bigSep Finset.univ (slE (F := F) c))
/-- After it only the barrier's counter is of interest. -/
def Yk (c : Dev nD) : sProp 𝕄 := semVal (barCell c) 0

theorem hopen (c : Dev nD) : iprop(Tk m c ∗ Pipeline.ownSems0 own c ∗ levAts L lv) ⊢ (|={Set.univ}=> Xk m c : sProp 𝕄) := by
  unfold Tk Xk
  iintro ⟨⟨%K, #He, Hb, Hs⟩, Ho, -⟩
  imod (slots_open_all c (sv (inp m)) K) $$ [Hs Ho] with H
  · isplitr; · iexact He
    isplitl [Hs] <;> iassumption
  imodintro
  iexists K
  isplitr; · iexact He
  isplitl [Hb] <;> iassumption

/-- The send buffers go to the slots, the receive buffers to the barrier's payment. -/
theorem slots_deal (c : Dev nD) :
    iprop(bigSep Finset.univ (slE (F := F) c) ∗ (bigSep Finset.univ fun s : Slot => any_ (F := F) c (sndM s)) ∗ bigSep Finset.univ fun s : Slot => any_ (F := F) c (rcvM s))
      ⊢ (iprop((bigSep Finset.univ (slI (F := F) c)) ∗ bigSep Finset.univ fun s : Slot => iprop(any_ (F := F) c (rcvM s) ∗ reached ER (rcvCell c s) 0)) : sProp 𝕄) := by
  have h : ∀ s ∈ (Finset.univ : Finset Slot), (iprop(slE (F := F) c s ∗ any_ (F := F) c (sndM s) ∗ any_ (F := F) c (rcvM s)) : sProp 𝕄)
      ⊢ iprop(slI (F := F) c s ∗ any_ (F := F) c (rcvM s) ∗ reached ER (rcvCell c s) 0) := fun s _ => by
    unfold slE slI
    iintro ⟨⟨H, Hr⟩, Hs, Hv⟩
    isplitl [H Hs]
    · isplitl [Hs]; · iexact Hs
      iexact H
    isplitl [Hv] <;> iassumption
  iintro ⟨H1, H2, H3⟩
  iapply unpair
  iapply (show (bigSep Finset.univ fun s : Slot => iprop(slE (F := F) c s ∗ any_ (F := F) c (sndM s) ∗ any_ (F := F) c (rcvM s)) : sProp 𝕄)
      ⊢ bigSep Finset.univ fun s : Slot => iprop(slI (F := F) c s ∗ any_ (F := F) c (rcvM s) ∗ reached ER (rcvCell c s) 0) from BI.bigSep_mono h)
  iapply pair; isplitl [H1]; · iexact H1
  iapply pair; isplitl [H2] <;> iassumption

theorem hin (c : Dev nD) : iprop(Pipeline.scopedRest spec0 c ∗ (∃ r, prngReg c r) ∗ StableHlo.held (c : Thread nD τ) (∅ : Finset (DevRef τ sig)) (W₁ m c) ∗ Xk m c)
    ⊢ (Φ₀ m c : sProp 𝕄) := by
  rw [scoped_eq, att_whole]
  unfold Φ₀ Xk barD bar0
  iintro ⟨⟨H0, H1, H2, H3, HA⟩, Hp, -, ⟨%K, #He, ⟨Ht, Ht', Hr, Hr', Ha, Hc⟩, Hs⟩⟩
  ihave Hsnd := (snd_split c) $$ [H0 H2]
  · isplitl [H0] <;> iassumption
  ihave Hrcv := (rcv_split c) $$ [H1 H3]
  · isplitl [H1] <;> iassumption
  ihave H := (slots_deal c) $$ [Hs Hsnd Hrcv]
  · isplitl [Hs]; · iexact Hs
    isplitl [Hsnd] <;> iassumption
  icases H with ⟨Hs, Hrcv⟩
  isplitr [Hp]
  · iexists K
    isplitr; · iexact He
    isplitr [HA Hs]
    · iframe
    isplitl [HA] <;> iassumption
  iexact Hp

theorem hout (c : Dev nD) : Φ₁ c ⊢ (iprop(Pipeline.scopedRest spec0 c ∗ (∃ r, prngReg c r)
    ∗ StableHlo.held (c : Thread nD τ) (∅ : Finset (DevRef τ sig)) (W₂ m c) ∗ Pipeline.ownSems0 own c ∗ Yk (F := F) c) : sProp 𝕄) := by
  unfold Φ₁ Yk
  iintro ⟨Hs, Hp, Ho, Hb⟩
  isplitl [Hs]; · iexact Hs
  isplitl [Hp]; · iexact Hp
  isplitr
  · iapply (show (iprop(emp) : sProp 𝕄) ⊢ StableHlo.held (c : Thread nD τ) (∅ : Finset (DevRef τ sig)) (W₂ m c) from by
      unfold StableHlo.held; rw [BI.bigSep_empty]; exact BI.Entails.refl _)
    iempintro
  isplitl [Ho] <;> iassumption

/-! ## The proof data of the one pipeline, and its arrays -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem arr_first (c : Dev nD) (w : Fin 6) : (dat m c).arrAt w 0 = W₁ m c (Proc.devRef .tc (Pipeline.arrRef spec0 w)) := rfl

/-- The output array, written back whole. -/
theorem arr_out (c : Dev nD) : (dat m c).arrAt 5 cfg0.N = outv (inp m) c := by
  refine (dat m c).arrAt_eq_of_after_last 5 t0_0 (by decide +kernel) _ fun j => ?_
  blk_simp
  rfl

theorem arr_last (c : Dev nD) (w : Fin 6) : (dat m c).arrAt w cfg0.N = W₂ m c (Proc.devRef .tc (Pipeline.arrRef spec0 w)) := by
  match w with
  | 5 => exact (arr_out m c).trans (W₂_v3 m c).symm
  | 0 => exact ((dat m c).arrAt_in 0 rfl _).trans (W₂_of_ne m c (Proc.devRef .tc (Pipeline.arrRef spec0 0)) (by decide)).symm
  | 1 => exact ((dat m c).arrAt_in 1 rfl _).trans (W₂_of_ne m c (Proc.devRef .tc (Pipeline.arrRef spec0 1)) (by decide)).symm
  | 2 => exact ((dat m c).arrAt_in 2 rfl _).trans (W₂_of_ne m c (Proc.devRef .tc (Pipeline.arrRef spec0 2)) (by decide)).symm
  | 3 => exact ((dat m c).arrAt_in 3 rfl _).trans (W₂_of_ne m c (Proc.devRef .tc (Pipeline.arrRef spec0 3)) (by decide)).symm
  | 4 => exact ((dat m c).arrAt_in 4 rfl _).trans (W₂_of_ne m c (Proc.devRef .tc (Pipeline.arrRef spec0 4)) (by decide)).symm

theorem rest_kept (c : Dev nD) (b : DevRef τ sig) (hb : b ∈ rest \ ∅) : W₂ m c b = W₁ m c b :=
  W₂_of_ne m c b (by rintro rfl; revert hb; unfold rest; decide)

theorem O₀_lv (c : Dev nD) (g : GSem nD τ sig) (i : Unit) (h : 0 < O₀ c g i) : i ∈ L g ∧ 0 < lv g i := by
  unfold O₀ at h
  rw [Pi.add_apply, Pi.add_apply, Finsupp.add_apply, Finsupp.add_apply] at h
  have hbar (d : Dev nD) (h : 0 < (tallyAt (barCell d) () 1 : CellTallies nD τ sig Unit) g i) : i ∈ L g ∧ 0 < lv g i := by
    rw [tallyAt_apply] at h
    split at h
    · next hg => rw [hg.1, L_tc]; exact ⟨Finset.mem_singleton_self _, Nat.one_pos⟩
    · exact absurd h (Nat.lt_irrefl 0)
  rcases Nat.add_pos_iff_pos_or_pos.mp h with h | h
  · rcases Nat.add_pos_iff_pos_or_pos.mp h with h | h
    · obtain ⟨s, -, rfl⟩ := due_pos h
      rw [L_tc, lv_rcv]; exact ⟨Finset.mem_singleton_self _, by omega⟩
    · exact hbar _ h
  · exact hbar _ h

/-- The staging transfers' cells are below every cell owed to. -/
theorem stg_lv (c : Dev nD) : ∀ (w : Fin 6) (s : Fin (cfg0.win w).nbuf), lv ((c : Thread nD τ), .dma ((cfg0.win w).sem s)) () ≤ 0 := by
  have h : ∀ (w : Fin 6) (s : Fin (cfg0.win w).nbuf), role ((cfg0.win w).sem s) = none := by decide
  intro w s
  unfold lv; dsimp only; rw [h w s]

theorem owed_lv (c : Dev nD) (t : Fin (cfg0.N + 1)) (g : GSem nD τ sig) (i : Unit) (h : 0 < (dat m c).owed t g i) : i ∈ L g ∧ 0 < lv g i := by
  have e : (dat m c).owed t = if t.val = 0 then O₀ c else 0 := by dsimp only [dat]
  rw [e] at h
  split at h
  · exact O₀_lv c g i h
  · exact absurd h (Nat.lt_irrefl 0)

/-! ## The segments -/

/-- What rides beside the buffers through the reshapes. -/
def Rk (c : Dev nD) : sProp 𝕄 := iprop((Tk m c ∗ ∃ r, prngReg c r) ∗ ∃ W, owes (c : Thread nD τ) (O₀ c) W)

theorem ops_sub : ∀ op ∈ (hostOps0 : List (HloOp τ sig (Elt F))), op.bufs ⊆ bufs := fun op h => by
  simp only [List.mem_cons, List.not_mem_nil, or_false] at h
  rcases h with rfl | rfl
  · show ({Proc.devRef .tc main_arg3, Proc.devRef .tc main_v1} : Finset (DevRef τ sig)) ⊆ bufs; decide
  · show ({Proc.devRef .tc main_arg4, Proc.devRef .tc main_v2} : Finset (DevRef τ sig)) ⊆ bufs; decide

def seg0 : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (W₀ m) (Rk m)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 own ownFacts ∅ (rest) (Finset.empty_subset _)
    launch0.toP rfl (fun c => (body_obligation m c).loose) (fun _ => 0) O₀
    (fun c => (owed_first m c).trans (zero_add _).symm) (owed_last m) (fun _ => rfl)
    (fun c w => by show (dat m c).share w = fullShare; unfold Dat.share; split <;> rfl)
    (W₁ m) (W₂ m) (rest_kept m) (Tk m) Yk (Xk m) Yk (hopen m)
    (fun c => (hin m c).trans (Entails.of_eq (Φ_first m c).symm)) (fun c => (Entails.of_eq (Φ_last m c)).trans (hout m c))
    (fun c => by iintro H; imodintro; iexact H) (fun _ => 0)
    ⟨fun c w s => by rw [L_tc]; exact Finset.mem_singleton_self _, fun c w s => stg_lv c w s, fun c t g i h => owed_lv m c t g i h⟩
    (fun _ => iprop(emp)) (arr_first m) (arr_last m)

end Cert.CrossAttn

end
-- ==== Proof.Launch.lean ====
/-
  The launch. Every cell's invariant is allocated at the start, the slots' cells with their counters still to come; the tokens go
  to whoever pays the duty, the credits to whoever waits. Then the run: each device's result is the value of its body.
-/
module

public import proofs.«01_k».proof.Proof.Segment

@[expose] public section

noncomputable section

namespace Cert.CrossAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)

/-! ## The cells and the tokens -/

theorem own_injective : Function.Injective own := ownFacts.inj
theorem own_ne_bar : ∀ k, own k ≠ .reg barS := by decide

def barEmb : Dev nD ↪ GSem nD τ sig := ⟨barCell, fun _ _ h => congrArg (fun g : GSem nD τ sig => g.1.1) h⟩
def ownEmb : Dev nD × Bool × Slot ↪ GSem nD τ sig :=
  ⟨fun x => ((x.1 : Thread nD τ), own x.2), fun _ _ h => Prod.ext (congrArg (fun g : GSem nD τ sig => g.1.1) h) (own_injective (congrArg Prod.snd h))⟩

abbrev barCells : Finset (GSem nD τ sig) := Finset.univ.map barEmb
abbrev ownCells : Finset (GSem nD τ sig) := Finset.univ.map ownEmb

theorem cells_disjoint : Disjoint barCells ownCells := by
  rw [Finset.disjoint_left]
  intro g h h'
  obtain ⟨c, -, rfl⟩ := Finset.mem_map.mp h
  obtain ⟨x, -, e⟩ := Finset.mem_map.mp h'
  exact own_ne_bar x.2 (congrArg Prod.snd e)

/-- A device's tokens: two of its barrier's, one of each transfer cell's. -/
def tok (x : Dev nD × (Bool ⊕ Bool × Slot)) : GSem nD τ sig × ℕ × Bool :=
  match x.2 with
  | .inl b => (barCell x.1, 0, b)
  | .inr k => (((x.1 : Thread nD τ), own k), 0, false)

theorem tok_injective : Function.Injective tok := by
  rintro ⟨c, k⟩ ⟨c', k'⟩ h
  have hs := congrArg (fun t => t.1.2) h
  have hb := congrArg (fun t => t.2.2) h
  rcases k with b | k <;> rcases k' with b' | k'
  · obtain rfl : c = c' := congrArg (fun t => t.1.1.1) h
    obtain rfl : b = b' := hb
    rfl
  · exact absurd hs.symm (own_ne_bar k')
  · exact absurd hs (own_ne_bar k)
  · obtain rfl : c = c' := congrArg (fun t => t.1.1.1) h
    obtain rfl := own_injective hs
    rfl
def toks : Finset (GSem nD τ sig × ℕ × Bool) := Finset.univ.map ⟨tok, tok_injective⟩

/-- The launch element: the pipeline's own and the protocol's. -/
def u₀ : UU :=
  (initOf (Pipeline.cells (Pipeline.pin (pcfgs (F := F)) adm) cellOf_inj) (Pipeline.launchToks (Pipeline.pin (pcfgs (F := F)) adm) cellOf_inj),
    launchOf barCells ownCells toks)

/-- All of the protocol's starts with device 0. -/
def G (c : Dev nD) : sProp 𝕄 := if c = 0 then BI.own (ER (launchOf barCells ownCells toks)) else iprop(emp)

omit [FloatOps F] in
theorem bigSep_G : bigSep Finset.univ (G (F := F)) = BI.own (ER (launchOf barCells ownCells toks)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-! ## The invariants, under one naming -/

/-- A naming of the cells by what they are. -/
def names (κ : GSem nD τ sig → ℕ) : Names
  | (c, none) => κ (barCell c)
  | (c, some k) => κ ((c : Thread nD τ), own k)

/-- What every device may consult. -/
def records (κ : GSem nD τ sig → ℕ) : sProp 𝕄 :=
  iprop(((bigSep (barCells ∪ ownCells) fun g => cellInv ER (Rd (sv (inp m))) (κ g) g) ∗ bigSep barCells fun g => reached ER g 0) ∗ levAts L lv)

instance records_persistent (κ : GSem nD τ sig → ℕ) : BI.Persistent (records m κ) := by unfold records; infer_instance

theorem inv_bar (κ : GSem nD τ sig → ℕ) (c : Dev nD) : (bigSep (barCells ∪ ownCells) fun g => (cellInv ER (Rd (sv (inp m))) (κ g) g : sProp 𝕄))
    ⊢ cellInv ER (Rd (sv (inp m))) (names κ (c, none)) (barCell c) :=
  bigSep_elim (Finset.mem_union_left _ (Finset.mem_map_of_mem barEmb (Finset.mem_univ c)))
theorem inv_own (κ : GSem nD τ sig → ℕ) (c : Dev nD) (b : Bool) (s : Slot) : (bigSep (barCells ∪ ownCells) fun g => (cellInv ER (Rd (sv (inp m))) (κ g) g : sProp 𝕄))
    ⊢ cellInv ER (Rd (sv (inp m))) (names κ (c, some (b, s))) ((c : Thread nD τ), own (b, s)) :=
  bigSep_elim (Finset.mem_union_right _ (Finset.mem_map_of_mem ownEmb (Finset.mem_univ (c, b, s))))
omit [FloatOps F] in
theorem reached_bar (c : Dev nD) : (bigSep barCells fun g => (reached ER g 0 : sProp 𝕄)) ⊢ reached ER (barCell c) 0 :=
  bigSep_elim (Finset.mem_map_of_mem barEmb (Finset.mem_univ c))

theorem records_env (κ : GSem nD τ sig → ℕ) : records m κ ⊢ env (sv (inp m)) (names κ) := by
  unfold records env
  iintro ⟨⟨#HI, -⟩, #Hl⟩
  isplitr; · iintro %c; iapply (inv_bar m κ c); iexact HI
  isplitr; · iintro %c %s; iapply (inv_own m κ c false s); iexact HI
  isplitr; · iintro %c %s; iapply (inv_own m κ c true s); iexact HI
  iexact Hl

/-! ## What each device gets -/

/-- Its tokens, dealt to the payer of each duty. -/
def paid (c : Dev nD) : sProp 𝕄 :=
  iprop(dutyTok ER (barCell (pr c false)) 0 false ∗ dutyTok ER (barCell (pr c true)) 0 true
    ∗ (bigSep Finset.univ fun s : Slot => dutyTok ER (sndCell c s) 0 false) ∗ bigSep Finset.univ fun s : Slot => dutyTok ER (rcvCell (pr c (link s)) s) 0 false)

/-- A device and one of its links, seen from the other end. -/
def across (l : Bool) : Dev nD ≃ Dev nD := ⟨fun c => pr c l, fun c => pr c l, fun c => pr_pr c l, fun c => pr_pr c l⟩
def across' : Dev nD × Slot ≃ Dev nD × Slot :=
  ⟨fun x => (pr x.1 (link x.2), x.2), fun x => (pr x.1 (link x.2), x.2), fun x => Prod.ext (pr_pr _ _) rfl, fun x => Prod.ext (pr_pr _ _) rfl⟩

omit [FloatOps F] in
theorem toks_dealt : bigSep toks (fun x => (dutyTok ER x.1 x.2.1 x.2.2 : sProp 𝕄)) ⊢ bigSep Finset.univ (paid (F := F)) := by
  have h : bigSep toks (fun x => (dutyTok ER x.1 x.2.1 x.2.2 : sProp 𝕄)) = bigSep Finset.univ fun c : Dev nD =>
      iprop((dutyTok ER (barCell c) 0 false ∗ dutyTok ER (barCell c) 0 true)
        ∗ (bigSep Finset.univ fun s : Slot => dutyTok ER (sndCell c s) 0 false) ∗ bigSep Finset.univ fun s : Slot => dutyTok ER (rcvCell c s) 0 false) := by
    unfold toks
    rw [BI.bigSep_map, bigSep_univ_prod]
    refine bigSep_congr fun c _ => ?_
    rw [BI.bigSep_univ_sum, by_side, bigSep_univ_eq_bigSepL [false, true] (by decide) (by decide)]
    exact congrArg (BI.sep _) (BI.bigSep_sep _ _ _)
  rw [h]
  have e (d : Bool) : (bigSep Finset.univ fun c : Dev nD => (dutyTok ER (barCell c) 0 d : sProp 𝕄)) ⊢ bigSep Finset.univ fun c : Dev nD => dutyTok ER (barCell (pr c d)) 0 d :=
    Entails.of_eq (bigSep_univ_equiv (across d) fun c : Dev nD => (dutyTok ER (barCell c) 0 d : sProp 𝕄))
  have e' : (bigSep Finset.univ fun c : Dev nD => bigSep Finset.univ fun s : Slot => (dutyTok ER (rcvCell c s) 0 false : sProp 𝕄))
      ⊢ bigSep Finset.univ fun c : Dev nD => bigSep Finset.univ fun s : Slot => dutyTok ER (rcvCell (pr c (link s)) s) 0 false :=
    Entails.of_eq (by
      rw [← bigSep_univ_prod fun x : Dev nD × Slot => (dutyTok ER (rcvCell x.1 x.2) 0 false : sProp 𝕄),
        ← bigSep_univ_prod fun x : Dev nD × Slot => (dutyTok ER (rcvCell (pr x.1 (link x.2)) x.2) 0 false : sProp 𝕄)]
      exact bigSep_univ_equiv across' fun x : Dev nD × Slot => (dutyTok ER (rcvCell x.1 x.2) 0 false : sProp 𝕄))
  iintro H
  ihave H := unpair $$ H; icases H with ⟨Hb, H⟩
  ihave Hb := unpair $$ Hb; icases Hb with ⟨Hb, Hb'⟩
  ihave H := unpair $$ H; icases H with ⟨Hs, Hr⟩
  unfold paid
  iapply pair; isplitl [Hb]; · iapply (e false) $$ Hb
  iapply pair; isplitl [Hb']; · iapply (e true) $$ Hb'
  iapply pair; isplitl [Hs]; · iexact Hs
  iapply e' $$ Hr

/-! ## The credits at launch -/

theorem due_at (c : Dev nD) (g : GSem nD τ sig) : due c 0 g () = (slots.map fun s => due1 c s g ()).sum := by
  have h (l : List Slot) : ((l.map (due1 c)).sum) g () = (l.map fun s => due1 c s g ()).sum := by
    induction l with
    | nil => rfl
    | cons s l ih => rw [List.map_cons, List.sum_cons, List.map_cons, List.sum_cons, Pi.add_apply, Finsupp.add_apply, ih]
  exact h slots

theorem owed_rcv (d c : Dev nD) (s : Slot) : O₀ d (rcvCell c s) () = if d = pr c (link s) then N s else 0 := by
  have hb (d' : Dev nD) : (tallyAt (barCell d') () 1 : CellTallies nD τ sig Unit) (rcvCell c s) () = 0 := by
    rw [tallyAt_ne_cell (fun h => own_ne_bar (true, s) (congrArg Prod.snd h)), Finsupp.zero_apply]
  have hs : ∀ s' : Slot, s' ≠ s → s' ∈ slots → due1 d s' (rcvCell c s) () = 0 := fun s' h _ => by
    unfold due1
    rw [tallyAt_ne_cell (fun e => h (congrArg Prod.snd (own_injective (a₁ := (true, s)) (a₂ := (true, s')) (congrArg Prod.snd e))).symm), Finsupp.zero_apply]
  have hc : @List.count Slot instBEqOfDecidableEq s slots = 1 := (by decide : ∀ s : Slot, @List.count Slot instBEqOfDecidableEq s slots = 1) s
  unfold O₀
  rw [Pi.add_apply, Pi.add_apply, Finsupp.add_apply, Finsupp.add_apply, hb, hb, due_at, show (slots.map fun s' => due1 d s' (rcvCell c s) ()).sum = @List.count Slot instBEqOfDecidableEq s slots • due1 d s (rcvCell c s) () from List.sum_map_eq_nsmul_single s _ hs, hc, one_smul, add_zero, add_zero]
  unfold due1
  rw [tallyAt_apply]
  by_cases h : d = pr c (link s)
  · subst h; rw [pr_pr, if_pos ⟨rfl, rfl⟩, if_pos rfl]
  · rw [if_neg (fun e => h ?_), if_neg h]
    rw [← pr_pr d (link s)]; exact congrArg (pr · (link s)) (congrArg (fun g : GSem nD τ sig => g.1.1) e.1).symm

theorem owed_bar (d c : Dev nD) : O₀ d (barCell c) () = (if d = pr c true then 1 else 0) + if d = pr c false then 1 else 0 := by
  have hb (l : Bool) : (tallyAt (barCell (pr d l)) () 1 : CellTallies nD τ sig Unit) (barCell c) () = if d = pr c l then 1 else 0 := by
    rw [tallyAt_apply]
    by_cases h : d = pr c l
    · subst h; rw [pr_pr, if_pos ⟨rfl, rfl⟩, if_pos rfl]
    · rw [if_neg (fun e => h ?_), if_neg h]
      rw [← pr_pr d l]; exact congrArg (pr · l) (congrArg (fun g : GSem nD τ sig => g.1.1) e.1).symm
  have hd : due d 0 (barCell c) () = 0 := by
    by_contra h
    obtain ⟨s, -, e⟩ := due_pos (Nat.pos_of_ne_zero h)
    exact own_ne_bar (true, s) (congrArg Prod.snd e).symm
  unfold O₀
  rw [Pi.add_apply, Pi.add_apply, Finsupp.add_apply, Finsupp.add_apply, hb, hb, hd, Nat.zero_add]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pr c true) fun _ => 1, Finset.sum_ite_eq' Finset.univ (pr c false) fun _ => 1, if_pos (Finset.mem_univ _), if_pos (Finset.mem_univ _)]

theorem launch_rcv (c : Dev nD) (s : Slot) :
    tallyOn (rcvCell c s) (launchCredit (Pipeline.owing O₀) 0 (rcvCell c s)) = (tallyAt (rcvCell c s) () (N s) : CellTallies nD τ sig Unit) := by
  unfold tallyAt; refine congrArg _ (Finsupp.ext fun u => ?_); cases u
  rw [Pipeline.launchCredit_owing, Finsupp.single_eq_same, Finset.sum_congr rfl fun d _ => owed_rcv d c s,
    Finset.sum_ite_eq' Finset.univ (pr c (link s)) fun _ => N s, if_pos (Finset.mem_univ _)]

def rcvEmb : Slot ↪ SemLoc sig := ⟨fun s => own (true, s), fun _ _ h => (congrArg Prod.snd (own_injective h))⟩

omit [FloatOps F] in
theorem creds (c : Dev nD) : (Pipeline.launchCred O₀ c : sProp 𝕄)
    ⊢ iprop(cred (tallyAt (barCell c) () 2) ∗ bigSep Finset.univ fun s : Slot => cred (tallyAt (rcvCell c s) () (N s))) := by
  unfold Pipeline.launchCred
  rw [bigSep_univ_at _ (SemLoc.reg barS), launch_bar]
  refine sep_mono_right ?_
  refine BIBase.Entails.trans (bigSep_subset (t := Finset.univ.map rcvEmb) fun sm h => ?_) (Entails.of_eq ?_)
  · obtain ⟨s, -, rfl⟩ := Finset.mem_map.mp h
    exact Finset.mem_erase.mpr ⟨own_ne_bar (true, s), Finset.mem_univ _⟩
  · rw [BI.bigSep_map]
    exact bigSep_congr fun s _ => congrArg cred (launch_rcv c s)

/-! ## The launch step -/

/-- What of a device's holdings is not the protocol's ghost state. -/
def bundle (ρ : Dev nD → PrngReg) (c : Dev nD) : sProp 𝕄 :=
  iprop(StableHlo.held (c : Thread nD τ) bufs (W₀ m c) ∗ cred (tallyAt (barCell c) () 2)
    ∗ (bigSep Finset.univ fun s : Slot => cred (tallyAt (rcvCell c s) () (N s))) ∗ owes (c : Thread nD τ) (O₀ c) ∅ ∗ prngReg c (ρ c))
/-- What of it stays with its device. -/
def kept (c : Dev nD) : sProp 𝕄 :=
  iprop(atPos ER (barCell c) 0 ∅ 0 ∗ (bigSep Finset.univ fun s : Slot => iprop(openTok ER (sndCell c s) ∗ openTok ER (rcvCell c s))) ∗ paid (F := F) c)

/-- The state @main starts from. -/
abbrev T₀ (c : Dev nD) : sProp 𝕄 := iprop(StableHlo.held (c : Thread nD τ) bufs (W₀ m c) ∗ Rk m c)
/-- And ends in. -/
abbrev T₁ (c : Dev nD) : sProp 𝕄 := iprop(StableHlo.held (c : Thread nD τ) bufs (W₂ m c) ∗ semVal (barCell c) 0)

omit [FloatOps F] in
theorem slD_intro (c : Dev nD) : iprop((bigSep Finset.univ fun s : Slot => iprop(openTok ER (sndCell c s) ∗ openTok ER (rcvCell c s)))
      ∗ (bigSep Finset.univ fun s : Slot => dutyTok ER (sndCell c s) 0 false) ∗ (bigSep Finset.univ fun s : Slot => dutyTok ER (rcvCell (pr c (link s)) s) 0 false)
      ∗ bigSep Finset.univ fun s : Slot => cred (tallyAt (rcvCell c s) () (N s)))
    ⊢ (bigSep Finset.univ (slD (F := F) c) : sProp 𝕄) := by
  unfold slD
  iintro ⟨H1, H2, H3, H4⟩
  iapply pair; isplitl [H1]; · iexact H1
  iapply pair; isplitl [H2]; · iexact H2
  iapply pair; isplitl [H3] <;> iassumption

theorem T₀_intro (ρ : Dev nD → PrngReg) (κ : GSem nD τ sig → ℕ) (c : Dev nD) : iprop(records m κ ∗ (kept (F := F) c ∗ bundle m ρ c)) ⊢ T₀ m c := by
  unfold bundle T₀ Rk kept paid Tk barD
  iintro ⟨#HR, ⟨Ha, Ho, Ht, Ht', Hts, Htr⟩, Hh, Hcb, Hc, HO, Hp⟩
  ihave #He := (records_env m κ) $$ HR
  unfold records
  icases HR with ⟨⟨-, #Hr⟩, -⟩
  isplitl [Hh]; · iexact Hh
  isplitr [HO]
  · isplitr [Hp]
    · iexists (names κ)
      isplitr; · iexact He
      isplitl [Ha Ht Ht' Hcb]
      · isplitl [Ht]; · iexact Ht
        isplitl [Ht']; · iexact Ht'
        isplitr; · iapply (reached_bar (F := F) (pr c false)); iexact Hr
        isplitr; · iapply (reached_bar (F := F) (pr c true)); iexact Hr
        isplitl [Ha] <;> iassumption
      iapply (slD_intro c)
      isplitl [Ho]; · iexact Ho
      isplitl [Hts]; · iexact Hts
      isplitl [Htr] <;> iassumption
    iexists (ρ c); iexact Hp
  iexists ∅; iexact HO

omit [FloatOps F] in
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What the launch gives a device. -/
def given (ρ : Dev nD → PrngReg) (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G (F := F) c)

omit [FloatOps F] in
theorem given_split (ρ : Dev nD → PrngReg) (c : Dev nD) : given m ρ c ⊢ iprop(bundle m ρ c ∗ semVal (barCell c) 0 ∗ G (F := F) c) := by
  unfold given bundle
  rw [show unscopedBufs c (fun b => m ((c : Thread nD τ).loc b)) = StableHlo.held (c : Thread nD τ) bufs (W₀ m c) from unscopedBufs_held c (W₀ m c),
    unscopedSems_eq]
  iintro ⟨Hh, Hb, HO, Hc, Hp, HG⟩
  ihave Hc := (creds (F := F) c) $$ Hc
  icases Hc with ⟨H2, HN⟩
  isplitl [Hh H2 HN HO Hp]
  · isplitl [Hh]; · iexact Hh
    isplitl [H2]; · iexact H2
    isplitl [HN]; · iexact HN
    isplitl [HO] <;> iassumption
  isplitl [Hb] <;> iassumption

theorem init (ρ : Dev nD → PrngReg) : iprop(bigSep Finset.univ (given m ρ) ∗ levAts L lv) ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun s : Slot => iprop(openTok ER (sndCell c s) ∗ openTok ER (rcvCell c s))) :=
    Entails.of_eq (by
      rw [BI.bigSep_map, bigSep_univ_prod]
      exact bigSep_congr fun c _ => by_side fun k => (openTok ER ((c : Thread nD τ), own k) : sProp 𝕄))
  iintro ⟨H, #Hl⟩
  ihave H := (show bigSep Finset.univ (given m ρ) ⊢ (bigSep Finset.univ fun c : Dev nD => iprop(bundle m ρ c ∗ semVal (barCell c) 0 ∗ G (F := F) c) : sProp 𝕄)
    from BI.bigSep_mono fun c _ => given_split m ρ c) $$ H
  ihave H := unpair $$ H; icases H with ⟨HB, H⟩
  ihave H := unpair $$ H; icases H with ⟨Hv, HG⟩
  ihave Hu := (Entails.of_eq (bigSep_G (F := F))) $$ HG
  imod (Rounds.fund_launch ER (Rd (sv (inp m))) cells_disjoint (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(kept (F := F) c ∗ bundle m ρ c)) fun c _ => T₀_intro m ρ κ c)
  isplitr
  · unfold records
    isplitr
    · isplitr; · iexact Hinv
      iexact Hr
    iexact Hl
  iapply pair
  isplitr [HB]
  · unfold kept
    iapply pair; isplitl [Hat]; · iapply hat $$ Hat
    iapply pair; isplitl [Hopen]; · iapply hopen $$ Hopen
    iapply (toks_dealt (F := F)) $$ Htok
  iexact HB

/-! ## The run -/

theorem unscoped_eq : ∀ sm : SemLoc sig, sm.isScoped .tc = false → sm = .reg barS := by decide

/-- The region is entered with the buffers as the reshapes leave them. -/
theorem enter (c : Dev nD) : iprop(StableHlo.held (c : Thread nD τ) bufs (W₁ m c) ∗ Rk m c) ⊢ (reg0 m).pre c := by
  show _ ⊢ iprop(StableHlo.held (c : Thread nD τ) (Pipeline.arrRefs (τ := τ) spec0) (W₁ m c) ∗ (∃ r, prngReg c r)
    ∗ (StableHlo.held (c : Thread nD τ) rest (W₁ m c) ∗ emp) ∗ Tk m c ∗ ∃ W, owes (c : Thread nD τ) (0 + O₀ c) W)
  rw [held_split, zero_add]
  unfold Rk
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT] <;> iassumption

/-- It is left with the result written. -/
theorem leave (c : Dev nD) : (reg0 m).post c ⊢ iprop(T₁ m c ∗ ∃ W, owes (c : Thread nD τ) (0 : CellTallies nD τ sig Unit) W) := by
  show iprop(StableHlo.held (c : Thread nD τ) (Pipeline.arrRefs (τ := τ) spec0) (W₂ m c) ∗ (∃ r, prngReg c r)
    ∗ (StableHlo.held (c : Thread nD τ) rest (W₂ m c) ∗ emp) ∗ Yk (F := F) c ∗ ∃ W, owes (c : Thread nD τ) (0 : CellTallies nD τ sig Unit) W) ⊢ _
  unfold T₁ Yk
  rw [held_split]
  iintro ⟨Ha, -, ⟨Hr, -⟩, Hb, HO⟩
  isplitr [HO]
  · isplitr [Hb]
    · isplitl [Ha] <;> iassumption
    iexact Hb
  iexact HO

/-- One buffer, whole. -/
abbrev holds (c : Dev nD) (b : Ref sig .tc) (W : Valuation τ sig (Elt F)) : sProp 𝕄 := iprop((c : Thread nD τ).loc b ↦{fullShare} W (Proc.devRef .tc b))

omit [FloatOps F] in
/-- @main's buffers one by one. -/
theorem held_eq (c : Dev nD) (W : Valuation τ sig (Elt F)) : (StableHlo.held (c : Thread nD τ) bufs W : sProp 𝕄)
    = iprop(holds c main_arg0 W
      ∗ holds c main_arg1 W
      ∗ holds c main_arg2 W
      ∗ holds c main_arg3 W
      ∗ holds c main_arg4 W
      ∗ holds c main_v3 W
      ∗ holds c main_v1 W
      ∗ holds c main_v2 W) := by
  unfold StableHlo.held
  rw [bigSep_eq_bigSepL_of_eq ([main_arg0, main_arg1, main_arg2, main_arg3, main_arg4, main_v3, main_v1, main_v2].map (Proc.devRef .tc)) (by decide) (by decide)]
  rfl

theorem W₂_arg (c : Dev nD) (b : Ref sig .tc) (h : Proc.devRef .tc b ≠ Proc.devRef (τ := τ) .tc main_v3) (h' : W₁ m c (Proc.devRef .tc b) = m ((c : Thread nD τ).loc b)) :
    W₂ m c (Proc.devRef .tc b) = m ((c : Thread nD τ).loc b) := (W₂_of_ne m c _ h).trans h'

set_option backward.isDefEq.respectTransparency.types false in
/-- From any memory with zero counters every weakly fair execution on the four devices terminates; every final state has the
    arguments unchanged, each device's result at the value of its body, and every counter at zero. -/
theorem run_main (ρ : Dev nD → PrngReg) : θ_run (Cert.KernelIdeal.defs (F := F)) (onTc (τ := τ) (main (F := F))) (s₀ m ρ)
    (fun r => (∀ c : Dev nD, r.2.mem ((c : Thread nD τ).loc main_v3) = outv (inp m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main [.host (seg0 m), .region (reg0 m)]
    (fun c Q => by rw [main_segs adm (pdats m) () 𝒱₀ L lv (seg0 m) (reg0 m) rfl c])
    (by simp only [Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      iapply (Entails.of_eq (bigSep_G (F := F)).symm) $$ HX)
    (T₀ := T₀ m) (Tₙ := T₁ m)
    (hch := ⟨fun c => .rfl, fun c => enter m c, fun c => leave m c⟩)
    (hinit := init m ρ)
    (QY := fun c s => ((s.mem ((c : Thread nD τ).loc main_v3) = W₂ m c (Proc.devRef .tc main_v3)
        ∧ s.mem ((c : Thread nD τ).loc main_arg0) = W₂ m c (Proc.devRef .tc main_arg0)
        ∧ s.mem ((c : Thread nD τ).loc main_arg1) = W₂ m c (Proc.devRef .tc main_arg1)
        ∧ s.mem ((c : Thread nD τ).loc main_arg2) = W₂ m c (Proc.devRef .tc main_arg2)
        ∧ s.mem ((c : Thread nD τ).loc main_arg3) = W₂ m c (Proc.devRef .tc main_arg3)
        ∧ s.mem ((c : Thread nD τ).loc main_arg4) = W₂ m c (Proc.devRef .tc main_arg4)))
      ∧ s.sem (barCell c) = 0)
    (hfin := fun c s' => by
      dsimp only [T₁]; rw [held_eq]
      iintro ⟨⟨⟨H0, H1, H2, H3, H4, H5, -⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h5, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => by
        obtain ⟨⟨h5, h0, h1, h2, h3, h4⟩, -⟩ := h c
        exact ⟨h5.trans (W₂_v3 m c), h0.trans (W₂_arg m c _ (by decide) (V_main_arg0 m c)), h1.trans (W₂_arg m c _ (by decide) (V_main_arg1 m c)),
          h2.trans (W₂_arg m c _ (by decide) (V_main_arg2 m c)), h3.trans (W₂_arg m c _ (by decide) (V_main_arg3 m c)),
          h4.trans (W₂_arg m c _ (by decide) (V_main_arg4 m c))⟩,
      sem_eq_zero hs fun c sm hsm => by
        obtain rfl := unscoped_eq sm hsm
        exact (h c).2⟩)

end Cert.CrossAttn

end
-- ==== Proof.Inputs.lean ====
/-
  What a device's windows read, from the arguments: three arguments whole, and the keys and values with their heads
  side by side.
-/
module

public import proofs.«01_k».proof.Proof.Region
public import Idealize.ShloMosaic.Lib.Pointwise
public import Idealize.ShloMosaic.Lib.Pipeline.ValueKit
public import Idealize.ShloMosaic.Lib.Claim

@[expose] public section

noncomputable section

namespace Cert.CrossAttn

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-- Every window's one block starts at the origin. -/
theorem index0 : ∀ a, win0_0.index t0_0 a = 0 := by decide +kernel
theorem index1 : ∀ a, win0_1.index t0_0 a = 0 := by decide +kernel
theorem index2 : ∀ a, win0_2.index t0_0 a = 0 := by decide +kernel
theorem index3 : ∀ a, win0_3.index t0_0 a = 0 := by decide +kernel
theorem index4 : ∀ a, win0_4.index t0_0 a = 0 := by decide +kernel

theorem inp_x : (inp m c).x = m ((c : Thread nD τ).loc main_arg0) := by
  funext i
  show iblk m c 0 t0_0 i = _
  have e : (win0_0.blk t0_0).view.emb i = i := by blk_ext [index0]
  blk_simp [iblk]
  rw [e, V_main_arg0]

theorem inp_wq : (inp m c).wq = m ((c : Thread nD τ).loc main_arg1) := by
  funext i
  show iblk m c 1 t0_0 i = _
  have e : (win0_1.blk t0_0).view.emb i = i := by blk_ext [index1]
  blk_simp [iblk]
  rw [e, V_main_arg1]

theorem inp_wo : (inp m c).wo = m ((c : Thread nD τ).loc main_arg2) := by
  funext i
  show iblk m c 2 t0_0 i = _
  have e : (win0_2.blk t0_0).view.emb i = i := by blk_ext [index2]
  blk_simp [iblk]
  rw [e, V_main_arg2]

theorem inp_k (b : Fin 2) (j t : Fin 512) :
    (inp m c).k (ix3 b j t) = m ((c : Thread nD τ).loc main_arg3) (ix4 b j ⟨t.val / 64, by omega⟩ ⟨t.val % 64, by omega⟩) := by
  show iblk m c 3 t0_0 (ix3 b j t) = _
  have e : (win0_3.blk t0_0).view.emb (ix3 b j t) = ix3 b j t := by blk_ext [index3]
  blk_simp [iblk]
  rw [e]
  entry_read
  simp only [pointwise]

theorem inp_v (b : Fin 2) (j t : Fin 512) :
    (inp m c).v (ix3 b j t) = m ((c : Thread nD τ).loc main_arg4) (ix4 b j ⟨t.val / 64, by omega⟩ ⟨t.val % 64, by omega⟩) := by
  show iblk m c 4 t0_0 (ix3 b j t) = _
  have e : (win0_4.blk t0_0).view.emb (ix3 b j t) = ix3 b j t := by blk_ext [index4]
  blk_simp [iblk]
  rw [e]
  entry_read
  simp only [pointwise]

end Cert.CrossAttn

end
-- ==== Proof.Heads.lean ====
/-
  The kernel's head outputs at exact values, read at an element: the sixteen printed chains are one function of the
  head's number, and its element is a quotient of two sums over the keys.
-/
module

public import proofs.«01_k».proof.Proof.Sent
public import Idealize.ShloMosaic.Lib.Pointwise
public import Idealize.ShloMosaic.Lib.ValueLayout

@[expose] public section

noncomputable section

namespace Cert.CrossAttn

open Cert.KernelIdeal Cert.KernelIdeal.Gen
open Idealize.ShloMosaic

variable {F : FTy → Type} [FloatOps F]

/-! ## One function of the head -/

theorem slicesQ (n : ℕ) (h : n < 8) : S256x512.Slices ![0, 64 * n] S256x64 := ⟨rfl, fun a => by
  match a with
  | ⟨0, _⟩ => show 0 + 256 ≤ 256; omega
  | ⟨1, _⟩ => show 64 * n + 64 ≤ 512; omega⟩
theorem slicesK (n : ℕ) (h : n < 8) : S512x512.Slices ![0, 64 * n] S512x64 := ⟨rfl, fun a => by
  match a with
  | ⟨0, _⟩ => show 0 + 512 ≤ 512; omega
  | ⟨1, _⟩ => show 64 * n + 64 ≤ 512; omega⟩

/-- The exponentials of head `n`'s scores, -/
def expS (n : ℕ) (h : n < 8) (q : FVec F S256x512 .bf16) (k : FVec F S512x512 .bf16) : FVec F S256x512 .f32 :=
  exp (matmul dot_S256x64_S512x64_S256x512_1_1_0_0_n_n none (extractStridedSlice S256x64 ![0, 64 * n] q (slicesQ n h))
    (extractStridedSlice S512x64 ![0, 64 * n] k (slicesK n h)) (constant S256x512 .f32 0x00000000#32))

/-- and the head's output. -/
def headOut (n : ℕ) (h : n < 8) (q : FVec F S256x512 .bf16) (k v : FVec F S512x512 .bf16) : FVec F S256x64 .bf16 :=
  shapeCast S256x64 (truncf .bf16 (mulf
    (matmul dot_S256x512_S512x64_S256x64_1_0_0_1_n_n none (truncf .bf16 (expS n h q k) bitsLt_bf16_f32)
      (extractStridedSlice S512x64 ![0, 64 * n] v (slicesK n h)) (constant S256x64 .f32 0x00000000#32))
    (broadcastTo S256x64 (divf (broadcast S256x1 (Scalar.ofBits .f32 0x3F800000#32))
      (shapeCast S256x1 (multiReduction .add [1] S256 (expS n h q k) 0x00000000#32 reduces_S256x512_S256 (.inl rfl) rfl)
        shapeCasts_S256_S256x1)) broadcasts_S256x1_S256x64)) bitsLt_bf16_f32) shapeCasts_S256x64_S256x64

theorem hd0_eq (I : Inp F) (n : Fin 8) : hd0 I n = headOut n.val n.isLt (q0 I) (k0 I) (v0 I) := by
  fin_cases n <;> rfl
theorem hd1_eq (I : Inp F) (n : Fin 8) : hd1 I n = headOut n.val n.isLt (q1 I) (k1 I) (v1 I) := by
  fin_cases n <;> rfl

/-- Batch `b`'s queries, keys and values, by one term each. -/
abbrev qB (I : Inp F) (b : Fin 2) : FVec F S256x512 .bf16 := k0_pay4 (ldWq I) (ldX I b)
abbrev kB (I : Inp F) (b : Fin 2) : FVec F S512x512 .bf16 := k0_pay5 (ldK I b)
abbrev vB (I : Inp F) (b : Fin 2) : FVec F S512x512 .bf16 := k0_pay6 (ldV I b)
/-- Which of the two batches. -/
def bat (b : Bool) : Fin 2 := if b then 1 else 0

theorem hd_eq (I : Inp F) (b : Bool) (n : Fin 8) : hd I b n = headOut n.val n.isLt (qB I (bat b)) (kB I (bat b)) (vB I (bat b)) := by
  cases b
  · exact hd0_eq I n
  · exact hd1_eq I n

/-! ## At exact values -/

theorem ix2_congr {a b : ℕ} {r r' : Fin a} {c c' : Fin b} (h : r.val = r'.val) (h' : c.val = c'.val) : ix2 r c = ix2 r' c' := by
  rw [Fin.ext h, Fin.ext h']

theorem expS_at (n : ℕ) (h : n < 8) (q : FVec Ideal S256x512 .bf16) (k : FVec Ideal S512x512 .bf16) (r : Fin 256) (j : Fin 512) :
    expS n h q k (ix2 r j) = Ideal.exp (∑ d : Fin 64, q (ix2 r ⟨64 * n + d.val, by omega⟩) * k (ix2 j ⟨64 * n + d.val, by omega⟩)) := by
  unfold expS
  simp only [pointwise, zero_add]
  exact congrArg _ (Finset.sum_congr rfl fun d _ => congrArg₂ (fun x y : EReal => x * y)
    (congrArg q (ix2_congr (Nat.zero_add _) rfl)) (congrArg k (ix2_congr (Nat.zero_add _) rfl)))

theorem headOut_at (n : ℕ) (h : n < 8) (q : FVec Ideal S256x512 .bf16) (k v : FVec Ideal S512x512 .bf16) (r : Fin 256) (d : Fin 64) :
    headOut n h q k v (ix2 r d)
      = (∑ j : Fin 512, expS n h q k (ix2 r j) * v (ix2 j ⟨64 * n + d.val, by omega⟩)) * Ideal.div 1 (∑ j : Fin 512, expS n h q k (ix2 r j)) := by
  unfold headOut
  simp only [pointwise, zero_add]
  exact congrArg₂ (fun x y : EReal => x * y)
    (Finset.sum_congr rfl fun j _ => congrArg (expS n h q k (ix2 r j) * ·) (congrArg v (ix2_congr (Nat.zero_add _) rfl))) rfl

/-- The kernel's scale, one eighth. -/
def sc : EReal := Ideal.ofBits .f32 0x3E000000#32

theorem emb_whole {a b : ℕ} (inb) (r : Fin a) (t : Fin b) :
    (Rect.unit (s := ⟨2, ![a, b]⟩) ![0, 0] ![a, b] inb).emb (ix2 r t) = ix2 r t := by
  funext d; apply Fin.ext; rw [Rect.emb_apply]
  match d with
  | ⟨0, _⟩ => show 0 + 1 * r.val = r.val; omega
  | ⟨1, _⟩ => show 0 + 1 * t.val = t.val; omega

theorem emb_batch {a b : ℕ} (p : Fin 2) (inb) (r : Fin a) (t : Fin b) :
    (Rect.unit (s := ⟨3, ![2, a, b]⟩) ![p.val, 0, 0] ![1, a, b] inb).emb (ix3 0 r t) = ix3 p r t := by
  funext d; apply Fin.ext; rw [Rect.emb_apply]
  match d with
  | ⟨0, _⟩ => show p.val + 1 * 0 = p.val; omega
  | ⟨1, _⟩ => show 0 + 1 * r.val = r.val; omega
  | ⟨2, _⟩ => show 0 + 1 * t.val = t.val; omega

theorem qB_at (I : Inp Ideal) (b : Fin 2) (r : Fin 256) (t : Fin 512) :
    qB I b (ix2 r t) = (∑ c : Fin 768, I.x (ix3 b r c) * I.wq (ix2 c t)) * sc := by
  unfold qB k0_pay4 k0_pay2
  simp only [pointwise, zero_add]
  exact congrArg (· * sc) (Finset.sum_congr rfl fun c _ => congrArg₂ (fun x y : EReal => x * y)
    (congrArg I.x (emb_batch b (inbX b) r c)) (congrArg I.wq (emb_whole _ c t)))
theorem kB_at (I : Inp Ideal) (b : Fin 2) (j t : Fin 512) : kB I b (ix2 j t) = I.k (ix3 b j t) := by
  unfold kB k0_pay5
  simp only [pointwise]
  exact congrArg I.k (emb_batch b (inbKV b) j t)
theorem vB_at (I : Inp Ideal) (b : Fin 2) (j t : Fin 512) : vB I b (ix2 j t) = I.v (ix3 b j t) := by
  unfold vB k0_pay6
  simp only [pointwise]
  exact congrArg I.v (emb_batch b (inbKV b) j t)

/-! ## What a device adds to the sum -/

section Dev
variable (I : Inp Ideal) (b : Fin 2)

/-- A query's element, -/
def qv (r : Fin 256) (t : Fin 512) : EReal := (∑ c : Fin 768, I.x (ix3 b r c) * I.wq (ix2 c t)) * sc
/-- a score of head `n`, -/
def score (n : Fin 8) (r : Fin 256) (j : Fin 512) : EReal :=
  ∑ d : Fin 64, qv I b r ⟨64 * n.val + d.val, by omega⟩ * I.k (ix3 b j ⟨64 * n.val + d.val, by omega⟩)
/-- the weighted mean of the values with the exponentials as weights, -/
def mean (s v : Fin 512 → EReal) : EReal :=
  (∑ j : Fin 512, Ideal.exp (s j) * v j) * Ideal.div 1 (∑ j : Fin 512, Ideal.exp (s j))
/-- an element of the heads side by side, -/
def attn (r : Fin 256) (t : Fin 512) : EReal := mean (score I b ⟨t.val / 64, by omega⟩ r) fun j => I.v (ix3 b j t)
/-- and of its projection. -/
def proj (r : Fin 256) (n : Fin 768) : EReal := ∑ t : Fin 512, attn I b r t * I.wo (ix2 t n)

theorem expS_eq (n : Fin 8) (r : Fin 256) (j : Fin 512) : expS n.val n.isLt (qB I b) (kB I b) (ix2 r j) = Ideal.exp (score I b n r j) := by
  rw [expS_at]
  exact congrArg _ (Finset.sum_congr rfl fun d _ => by rw [qB_at, kB_at]; rfl)

end Dev

theorem att_at (I : Inp Ideal) (b : Bool) (r : Fin 256) (t : Fin 512) : att I b (ix2 r t) = attn I (bat b) r t := by
  have e : att I b (ix2 r t) = hd I b ⟨t.val / 64, by omega⟩ (ix2 r ⟨t.val % 64, by omega⟩) := by
    rw [ix2_eq_valueIdx r (⟨t.val % 64, by omega⟩ : Fin 64)]; rfl
  rw [e, hd_eq, headOut_at]
  unfold attn mean
  simp only [expS_eq I (bat b) ⟨t.val / 64, by omega⟩]
  refine congrArg (· * _) (Finset.sum_congr rfl fun j _ => congrArg (fun z : EReal => Ideal.exp _ * z) ?_)
  rw [vB_at]
  exact congrArg (fun z => I.v (ix3 (bat b) j z)) (Fin.ext (Nat.div_add_mod t.val 64))

theorem ldA_at (I : Inp Ideal) (b : Bool) (r : Fin 256) (t : Fin 512) : ldA I b (ix2 r t) = attn I (bat b) r t :=
  (congrArg (att I b) (emb_whole _ r t)).trans (att_at I b r t)

end Cert.CrossAttn

end
-- ==== Proof.Softmax.lean ====
/-
  The two forms of softmax. The kernel divides `∑ exp s · v` by `∑ exp s`; the reference first subtracts the largest
  score. On real scores both give the same mean, whatever the (possibly infinite) values `v` are.
-/
module

public import proofs.«01_k».proof.Proof.Heads

@[expose] public section

noncomputable section

namespace Cert.CrossAttn

open Idealize.ShloMosaic
open scoped BigOperators

/-- An extended real which is a real number. -/
def Real' (x : EReal) : Prop := ∃ r : ℝ, x = r

theorem Real'.mul {x y : EReal} : Real' x → Real' y → Real' (x * y) := by
  rintro ⟨a, rfl⟩ ⟨b, rfl⟩; exact ⟨a * b, (EReal.coe_mul a b).symm⟩

theorem coe_sum {ι : Type} (t : Finset ι) (f : ι → ℝ) : (∑ i ∈ t, (f i : EReal)) = ((∑ i ∈ t, f i : ℝ) : EReal) := by
  classical
  induction t using Finset.induction_on with
  | empty => simp
  | insert i t h ih => rw [Finset.sum_insert h, Finset.sum_insert h, ih, EReal.coe_add]

theorem Real'.sum {ι : Type} {t : Finset ι} {f : ι → EReal} (h : ∀ i, Real' (f i)) : Real' (∑ i ∈ t, f i) := by
  choose g hg using h
  exact ⟨_, (Finset.sum_congr rfl fun i _ => hg i).trans (coe_sum t g)⟩

/-- The largest of finitely many real numbers, started from `⊥`, is real. -/
theorem Real'.fold_max {ι : Type} [Fintype ι] [Nonempty ι] {f : ι → EReal} (h : ∀ i, Real' (f i)) : Real' (Finset.univ.fold max ⊥ f) := by
  obtain ⟨i, -, hi⟩ := Finset.exists_max_image Finset.univ f Finset.univ_nonempty
  have e : Finset.univ.fold max ⊥ f = f i :=
    le_antisymm (Finset.fold_max_le _ |>.mpr ⟨bot_le, hi⟩) (Finset.le_fold_max _ |>.mpr (.inr ⟨i, Finset.mem_univ _, le_rfl⟩))
  exact e ▸ h i

/-- A nonnegative real factor moves into a sum of extended reals. -/
theorem sum_mul_real {ι : Type} (t : Finset ι) (f : ι → EReal) {e : ℝ} (he : 0 ≤ e) : (∑ i ∈ t, f i) * (e : EReal) = ∑ i ∈ t, f i * e := by
  classical
  induction t using Finset.induction_on with
  | empty => simp
  | insert i t h ih =>
    rw [Finset.sum_insert h, Finset.sum_insert h, ← ih]
    exact EReal.right_distrib_of_nonneg_of_ne_top (EReal.coe_nonneg.mpr he) (EReal.coe_ne_top e) _ _

/-- Scaling every query element, or the finished score. -/
theorem sum_scaled {ι : Type} [Fintype ι] {q k : ι → EReal} {a : EReal} (hq : ∀ i, Real' (q i)) (hk : ∀ i, Real' (k i)) (ha : Real' a) :
    ∑ i, q i * a * k i = (∑ i, q i * k i) * a := by
  choose q' hq using hq
  choose k' hk using hk
  obtain ⟨a, rfl⟩ := ha
  simp only [hq, hk, ← EReal.coe_mul, coe_sum, Finset.sum_mul]
  exact congrArg _ (Finset.sum_congr rfl fun i _ => by ring)

theorem sc_real : Real' sc := ⟨_, by
  simp [sc, Ideal.ofBits, Ideal.ieee]
  rfl⟩

/-- **Subtracting a real number from all scores does not change their softmax mean.** -/
theorem mean_eq {s : Fin 512 → EReal} (hs : ∀ j, Real' (s j)) (v : Fin 512 → EReal) {m : EReal} (hm : Real' m) :
    mean s v = Ideal.div (∑ j, v j * Ideal.exp (s j - m)) (∑ j, Ideal.exp (s j - m)) := by
  choose s' hs using hs
  obtain ⟨m, rfl⟩ := hm
  have hp : 0 < ∑ j, Real.exp (s' j) := Finset.sum_pos (fun j _ => Real.exp_pos _) ⟨0, Finset.mem_univ _⟩
  have he : 0 < Real.exp (-m) := Real.exp_pos _
  have hx (j) : Ideal.exp ((s' j : EReal) - m) = (Real.exp (s' j) : EReal) * (Real.exp (-m) : EReal) := by
    rw [← EReal.coe_sub, Ideal.exp_coe, sub_eq_add_neg, Real.exp_add, EReal.coe_mul]
  have hd : ∑ j, Ideal.exp ((s' j : EReal) - m) = (((∑ j, Real.exp (s' j)) * Real.exp (-m) : ℝ) : EReal) := by
    simp only [hx, ← EReal.coe_mul, coe_sum, Finset.sum_mul]
  unfold mean
  simp only [hs]
  rw [hd, Ideal.div_coe (mul_pos hp he).ne']
  simp only [hx, Ideal.exp_coe, coe_sum]
  rw [Ideal.div_coe hp.ne', one_mul,
    Finset.sum_congr rfl fun j _ => (mul_comm (v j) _).trans (mul_right_comm _ _ (v j)), ← sum_mul_real _ _ he.le,
    mul_assoc, ← EReal.coe_mul]
  refine congrArg (fun z : ℝ => (∑ j, (Real.exp (s' j) : EReal) * v j) * (z : EReal)) ?_
  generalize ∑ j, Real.exp (s' j) = D at hp
  field_simp

end Cert.CrossAttn

end
-- ==== Proof.Parts.lean ====
/-
  The kernel's output at exact values: an element is the sum over the devices of their partial projections, whichever of
  the two exchanges it goes through first.
-/
module

public import proofs.«01_k».proof.Proof.Heads
public import Idealize.ShloMosaic.Lib.MatmulPlain

@[expose] public section

noncomputable section

namespace Cert.CrossAttn

open Cert.KernelIdeal Cert.KernelIdeal.Gen
open Idealize.ShloMosaic

/-! ## The slices a device projects -/

theorem slicesWo (W o : ℕ) (h : o + W ≤ 768) : S512x768.Slices ![0, o] ⟨2, ![512, W]⟩ := ⟨rfl, fun a => by
  match a with
  | ⟨0, _⟩ => show 0 + 512 ≤ 512; omega
  | ⟨1, _⟩ => exact h⟩

/-- The projection onto `W` columns from column `o`. -/
def slice {F : FTy → Type} [FloatOps F] (W o : ℕ) (h : o + W ≤ 768) (hc : (⟨2, ![256, W]⟩ : Shape).ShapeCasts ⟨3, ![1, 256, W]⟩)
    (wo : FVec F S512x768 .bf16) (a : FVec F S256x512 .bf16) : FVec F ⟨3, ![1, 256, W]⟩ .bf16 :=
  shapeCast ⟨3, ![1, 256, W]⟩ (truncf .bf16 (matmul (DotDims.plain 256 512 W) none a
    (extractStridedSlice ⟨2, ![512, W]⟩ ![0, o] (k0_pay3 wo) (slicesWo W o h)) (constant ⟨2, ![256, W]⟩ .f32 0x00000000#32))
    bitsLt_bf16_f32) hc

theorem slice_at (W o : ℕ) (h : o + W ≤ 768) (hc) (wo : FVec Ideal S512x768 .bf16) (a : FVec Ideal S256x512 .bf16) (r : Fin 256)
    (j : Fin W) :
    slice W o h hc wo a (ix3 0 r j) = ∑ t : Fin 512, a (ix2 r t) * wo (ix2 t ⟨o + j.val, by omega⟩) := by
  unfold slice
  rw [ix3_eq_valueIdx, ValueIdx.shapeCast_ab_1ab_apply]
  show FloatOps.matmul (DotDims.plain 256 512 W) none a _ _ (ValueIdx.ix2 r j) = _
  rw [Ideal.matmul_plain_apply]
  show Ideal.ofBits .f32 0x00000000#32 + _ = _
  rw [Ideal.ofBits_zero_f32, zero_add]
  refine Finset.sum_congr rfl fun t _ => ?_
  rw [ValueIdx.slice2_axis1_apply o _ (slicesWo W o h) t j ⟨o + j.val, by omega⟩ rfl, ← ix2_eq_valueIdx, ← ix2_eq_valueIdx]
  refine congrArg (fun z : EReal => a (ix2 r t) * z) ?_
  unfold k0_pay3
  simp only [pointwise]

section Dev
variable (I : Inp Ideal)

/-- A device's slice is its partial projection there. -/
theorem slice_proj (W o : ℕ) (h : o + W ≤ 768) (hc) (b : Bool) (r : Fin 256) (j : Fin W) :
    slice W o h hc (ldWo I) (ldA I b) (ix3 0 r j) = proj I (bat b) r ⟨o + j.val, by omega⟩ := by
  rw [slice_at]
  exact Finset.sum_congr rfl fun t _ => congrArg₂ (fun x y : EReal => x * y) (ldA_at I b r t) (congrArg I.wo (emb_whole _ t _))

theorem hv0_at (r : Fin 256) (j : Fin 384) : hv0 I (ix3 0 r j) = proj I 0 r ⟨0 + j.val, by omega⟩ :=
  slice_proj I 384 0 (by omega) shapeCasts_S256x384_S1x256x384 false r j
theorem hv1_at (r : Fin 256) (j : Fin 384) : hv1 I (ix3 0 r j) = proj I 0 r ⟨384 + j.val, by omega⟩ :=
  slice_proj I 384 384 (by omega) shapeCasts_S256x384_S1x256x384 false r j
theorem qv0_at (r : Fin 256) (j : Fin 192) : qv0 I (ix3 0 r j) = proj I 1 r ⟨0 + j.val, by omega⟩ :=
  slice_proj I 192 0 (by omega) shapeCasts_S256x192_S1x256x192 true r j
theorem qv1_at (r : Fin 256) (j : Fin 192) : qv1 I (ix3 0 r j) = proj I 1 r ⟨192 + j.val, by omega⟩ :=
  slice_proj I 192 192 (by omega) shapeCasts_S256x192_S1x256x192 true r j
theorem qv2_at (r : Fin 256) (j : Fin 192) : qv2 I (ix3 0 r j) = proj I 1 r ⟨384 + j.val, by omega⟩ :=
  slice_proj I 192 384 (by omega) shapeCasts_S256x192_S1x256x192 true r j
theorem qv3_at (r : Fin 256) (j : Fin 192) : qv3 I (ix3 0 r j) = proj I 1 r ⟨576 + j.val, by omega⟩ :=
  slice_proj I 192 576 (by omega) shapeCasts_S256x192_S1x256x192 true r j

end Dev

/-! ## The two exchanges -/

/-- A slice added to a slice. -/
theorem add_at {W : ℕ} {φ : FTy} (hc : (⟨3, ![1, 256, W]⟩ : Shape).ShapeCasts ⟨2, ![256, W]⟩)
    (hc' : (⟨2, ![256, W]⟩ : Shape).ShapeCasts ⟨3, ![1, 256, W]⟩) (a b : FVec Ideal ⟨3, ![1, 256, W]⟩ φ) (r : Fin 256) (j : Fin W) :
    (shapeCast ⟨3, ![1, 256, W]⟩ (addf (shapeCast ⟨2, ![256, W]⟩ a hc) (shapeCast ⟨2, ![256, W]⟩ b hc)) hc'
        : FVec Ideal ⟨3, ![1, 256, W]⟩ φ) (ix3 0 r j) = (a (ix3 0 r j) + b (ix3 0 r j) : EReal) := by
  rw [ix3_eq_valueIdx, ValueIdx.shapeCast_ab_1ab_apply]
  show (shapeCast ⟨2, ![256, W]⟩ a hc (ValueIdx.ix2 r j) + shapeCast ⟨2, ![256, W]⟩ b hc (ValueIdx.ix2 r j) : EReal) = _
  rw [ValueIdx.shapeCast_1ab_ab_apply, ValueIdx.shapeCast_1ab_ab_apply]

theorem sum_devices (f : Dev nD → EReal) (c : Dev nD) (l : Bool) :
    f c + f (pr c l) + (f (pr c !l) + f (pr (pr c !l) l)) = ∑ d : Dev nD, f d := by
  have h : ∀ (c : Dev nD) (l : Bool), [c, pr c l, pr c !l, pr (pr c !l) l].Perm (List.finRange nD) := by decide
  have e := ((h c l).map f).sum_eq
  rw [← Fin.sum_univ_def] at e
  simp only [List.map_cons, List.map_nil, List.sum_cons, List.sum_nil, add_zero] at e
  rw [← e]; abel

/-- What two exchanges leave of a slice: `w` is sent over link `l`, the sum `u` of the two over the other link. -/
theorem exchanged {W : ℕ} {r : Fin 256} {j : Fin W} {p : Dev nD → EReal} {w : Dev nD → FVec Ideal ⟨3, ![1, 256, W]⟩ .bf16} (l : Bool)
    (hw : ∀ d, w d (ix3 0 r j) = p d) (u : Dev nD → FVec Ideal ⟨3, ![1, 256, W]⟩ .bf16)
    (hu : ∀ d, u d (ix3 0 r j) = (w d (ix3 0 r j) + w (pr d l) (ix3 0 r j) : EReal)) (c : Dev nD) :
    (u c (ix3 0 r j) + u (pr c !l) (ix3 0 r j) : EReal) = ∑ d : Dev nD, p d := by
  rw [hu, hu, hw, hw, hw, hw]; exact sum_devices p c l

variable (I : Dev nD → Inp Ideal)

/-- The sum of a slice's element over the devices. -/
def total (b : Fin 2) (r : Fin 256) (n : Fin 768) : EReal := ∑ d : Dev nD, proj (I d) b r n

theorem o384_at (c : Dev nD) (i : Fin 2) (r : Fin 256) (j : Fin 384) :
    o384 I c i (ix3 0 r j) = total I 0 r ⟨384 * i.val + j.val, by omega⟩ := by
  match i with
  | 0 => exact (add_at shapeCasts_S1x256x384_S256x384 shapeCasts_S256x384_S1x256x384 (φ := .bf16) (sv I c (.inl 2)) (rv I c (.inl 2)) r j).trans (exchanged false (fun d => hv0_at (I d) r j)
      (fun d => sv I d (.inl 2)) (fun d => add_at shapeCasts_S1x256x384_S256x384 shapeCasts_S256x384_S1x256x384 (φ := .bf16) (hv0 (I d)) (hv0 (I (pr d false))) r j) c)
  | 1 => exact (add_at shapeCasts_S1x256x384_S256x384 shapeCasts_S256x384_S1x256x384 (φ := .bf16) (sv I c (.inl 3)) (rv I c (.inl 3)) r j).trans (exchanged true (fun d => hv1_at (I d) r j)
      (fun d => sv I d (.inl 3)) (fun d => add_at shapeCasts_S1x256x384_S256x384 shapeCasts_S256x384_S1x256x384 (φ := .bf16) (hv1 (I d)) (hv1 (I (pr d true))) r j) c)

theorem o192_at (c : Dev nD) (i : Fin 4) (r : Fin 256) (j : Fin 192) :
    o192 I c i (ix3 0 r j) = total I 1 r ⟨192 * i.val + j.val, by omega⟩ := by
  match i with
  | 0 => exact (add_at shapeCasts_S1x256x192_S256x192 shapeCasts_S256x192_S1x256x192 (φ := .bf16) (sv I c (.inr 4)) (rv I c (.inr 4)) r j).trans (exchanged false (fun d => qv0_at (I d) r j)
      (fun d => sv I d (.inr 4)) (fun d => add_at shapeCasts_S1x256x192_S256x192 shapeCasts_S256x192_S1x256x192 (φ := .bf16) (qv0 (I d)) (qv0 (I (pr d false))) r j) c)
  | 1 => exact (add_at shapeCasts_S1x256x192_S256x192 shapeCasts_S256x192_S1x256x192 (φ := .bf16) (sv I c (.inr 5)) (rv I c (.inr 5)) r j).trans (exchanged true (fun d => qv1_at (I d) r j)
      (fun d => sv I d (.inr 5)) (fun d => add_at shapeCasts_S1x256x192_S256x192 shapeCasts_S256x192_S1x256x192 (φ := .bf16) (qv1 (I d)) (qv1 (I (pr d true))) r j) c)
  | 2 => exact (add_at shapeCasts_S1x256x192_S256x192 shapeCasts_S256x192_S1x256x192 (φ := .bf16) (sv I c (.inr 6)) (rv I c (.inr 6)) r j).trans (exchanged false (fun d => qv2_at (I d) r j)
      (fun d => sv I d (.inr 6)) (fun d => add_at shapeCasts_S1x256x192_S256x192 shapeCasts_S256x192_S1x256x192 (φ := .bf16) (qv2 (I d)) (qv2 (I (pr d false))) r j) c)
  | 3 => exact (add_at shapeCasts_S1x256x192_S256x192 shapeCasts_S256x192_S1x256x192 (φ := .bf16) (sv I c (.inr 7)) (rv I c (.inr 7)) r j).trans (exchanged true (fun d => qv3_at (I d) r j)
      (fun d => sv I d (.inr 7)) (fun d => add_at shapeCasts_S1x256x192_S256x192 shapeCasts_S256x192_S1x256x192 (φ := .bf16) (qv3 (I d)) (qv3 (I (pr d true))) r j) c)

/-- **Every device's output is the sum of the devices' partial projections.** -/
theorem outv_at (c : Dev nD) (b : Fin 2) (r : Fin 256) (n : Fin 768) : outv I c (ix3 b r n) = total I b r n := by
  match b with
  | 0 =>
    refine Eq.trans (b := o384 I c ⟨n.val / 384, by omega⟩ (ix3 0 r ⟨n.val % 384, by omega⟩)) ?_ ?_
    · rw [ix3_eq_valueIdx (0 : Fin 1) r (⟨n.val % 384, by omega⟩ : Fin 384)]; rfl
    · rw [o384_at]; exact congrArg (total I 0 r) (Fin.ext (Nat.div_add_mod n.val 384))
  | 1 =>
    refine Eq.trans (b := o192 I c ⟨n.val / 192, by omega⟩ (ix3 0 r ⟨n.val % 192, by omega⟩)) ?_ ?_
    · rw [ix3_eq_valueIdx (0 : Fin 1) r (⟨n.val % 192, by omega⟩ : Fin 192)]; rfl
    · rw [o192_at]; exact congrArg (total I 1 r) (Fin.ext (Nat.div_add_mod n.val 192))

end Cert.CrossAttn

end
-- ==== Proof.Reference.lean ====
/-
  The reference's result at exact values, read at an element.
-/
module

public import proofs.«01_k».proof.Proof.Softmax
public import proofs.«01_k».proof.Proof.Parts
public import proofs.«01_k».proof.Proof.Gen.ReferenceIdeal.Run

@[expose] public section

noncomputable section

namespace Cert.CrossAttn.Ref

open Cert.ReferenceIdeal Cert.ReferenceIdeal.Gen
open Idealize.ShloMosaic

/-- The scaled scores, -/
def scores (x : FVec Ideal S2x256x768 .bf16) (wq : FVec Ideal S768x2048 .bf16) (k : FVec Ideal S2x512x32x64 .bf16) :
    FVec Ideal S2x32x256x512 .f32 :=
  mulf (Host.dotGeneral dot_S2x256x32x64_S2x512x32x64_S2x32x256x512_3_3_1_1_02_02 none
      (shapeCast _ (Host.dotGeneral dot_S2x256x768_S768x2048_S2x256x2048_2_0_01_1_n_n none (extf .f32 x bitsLt_bf16_f32)
        (extf .f32 wq bitsLt_bf16_f32)) shapeCasts_S2x256x2048_S2x256x32x64) (extf .f32 k bitsLt_bf16_f32))
    (broadcastInDim S2x32x256x512 ![] bcast_S_S2x32x256x512 (constant S_ .f32 0x3E000000#32))
/-- every row's largest score, -/
def top (s : FVec Ideal S2x32x256x512 .f32) : FVec Ideal S2x32x256 .f32 :=
  Host.reduce FloatOps.maximumf s (constant S_ .f32 0xFF800000#32) reducesTo_S2x32x256x512_S2x32x256_d3 h_S_
/-- the weights, -/
def weights (s : FVec Ideal S2x32x256x512 .f32) : FVec Ideal S2x32x256x512 .f32 :=
  Host.exp (subf s (broadcastInDim S2x32x256x512 ![0, 1, 2, 3] bcast_S2x32x256x1_S2x32x256x512_0_1_2_3
    (broadcastInDim S2x32x256x1 ![0, 1, 2] bcast_S2x32x256_S2x32x256x1_0_1_2 (top s))))
/-- the heads' outputs, -/
def heads (p : FVec Ideal S2x32x256x512 .f32) (v : FVec Ideal S2x512x32x64 .bf16) : FVec Ideal S2x256x32x64 .f32 :=
  Host.divf (transpose S2x256x32x64 [0, 3, 1, 2] (Host.dotGeneral dot_S2x512x32x64_S2x32x256x512_S2x32x64x256_1_3_3_2_02_01 none
      (extf .f32 v bitsLt_bf16_f32) p) transposes_S2x32x64x256_S2x256x32x64_0_3_1_2)
    (broadcastInDim S2x256x32x64 ![0, 1, 2, 3] bcast_S2x256x32x1_S2x256x32x64_0_1_2_3 (transpose S2x256x32x1 [0, 2, 1, 3]
      (broadcastInDim S2x32x256x1 ![0, 1, 2] bcast_S2x32x256_S2x32x256x1_0_1_2 (Host.reduceAdd p (constant S_ .f32 0x00000000#32)
        reducesTo_S2x32x256x512_S2x32x256_d3 h_S_)) transposes_S2x32x256x1_S2x256x32x1_0_2_1_3))
/-- and their projection. -/
def projected (o : FVec Ideal S2x256x32x64 .f32) (wo : FVec Ideal S2048x768 .bf16) : FVec Ideal S2x256x768 .f32 :=
  Host.dotGeneral dot_S2x256x2048_S2048x768_S2x256x768_2_0_01_1_n_n none (shapeCast _ o shapeCasts_S2x256x32x64_S2x256x2048)
    (extf .f32 wo bitsLt_bf16_f32)

variable (x : FVec Ideal S2x256x768 .bf16) (wq : FVec Ideal S768x2048 .bf16) (wo : FVec Ideal S2048x768 .bf16)
  (k v : FVec Ideal S2x512x32x64 .bf16)

/-- The reference's result. -/
def result : FVec Ideal S2x256x768 .f32 := projected (heads (weights (scores x wq k)) v) wo

theorem scores_at (b : Fin 2) (h : Fin 32) (r : Fin 256) (j : Fin 512) :
    scores x wq k (ix4 b h r j) =
      (∑ d : Fin 64, (∑ c : Fin 768, x (ix3 b r c) * wq (ix2 c ⟨h.val * 64 + d.val, by omega⟩)) * k (ix4 b j h d) : EReal) * sc := by
  unfold scores
  simp only [pointwise, zero_add]
  rfl

theorem top_at (s : FVec Ideal S2x32x256x512 .f32) (b : Fin 2) (h : Fin 32) (r : Fin 256) :
    top s (ix3 b h r) = Finset.univ.fold max ⊥ fun j : Fin 512 => s (ix4 b h r j) := by
  unfold top
  simp only [pointwise]
  exact congrArg (fun z : EReal => Finset.univ.fold max z fun j : Fin 512 => s (ix4 b h r j)) (by simp [Ideal.ofBits, Ideal.ieee])

theorem weights_at (s : FVec Ideal S2x32x256x512 .f32) (b : Fin 2) (h : Fin 32) (r : Fin 256) (j : Fin 512) :
    weights s (ix4 b h r j) = Ideal.exp (s (ix4 b h r j) - top s (ix3 b h r)) := by
  unfold weights
  simp only [pointwise]
  rfl

theorem heads_at (p : FVec Ideal S2x32x256x512 .f32) (b : Fin 2) (r : Fin 256) (h : Fin 32) (d : Fin 64) :
    heads p v (ix4 b r h d) = Ideal.div (∑ j : Fin 512, v (ix4 b j h d) * p (ix4 b h r j)) (∑ j : Fin 512, p (ix4 b h r j)) := by
  unfold heads
  simp only [pointwise, zero_add]
  rfl

theorem projected_at (o : FVec Ideal S2x256x32x64 .f32) (b : Fin 2) (r : Fin 256) (n : Fin 768) :
    projected o wo (ix3 b r n) = (∑ t : Fin 2048, o (ix4 b r ⟨t.val / 64, by omega⟩ ⟨t.val % 64, by omega⟩) * wo (ix2 t n) : EReal) := by
  unfold projected
  simp only [pointwise, zero_add]

/-! ## Against the devices' sums -/

/-- The columns of the four devices one after the other. -/
theorem sum_columns (f : Fin 2048 → EReal) : ∑ t : Fin 2048, f t = ∑ d : Fin 4, ∑ t : Fin 512, f ⟨512 * d.val + t.val, by omega⟩ := by
  rw [← Fintype.sum_prod_type']
  exact (Fintype.sum_equiv (finProdFinEquiv (m := 4) (n := 512)) _ _ fun p => congrArg f (Fin.ext (add_comm _ _))).symm

/-- One device's inputs are its share of the whole arrays: 512 columns of `Wq`, 512 rows of `Wo`, 8 heads of `K` and `V`. -/
structure Share (I : Inp Ideal) (d : Fin 4) : Prop where
  x : I.x = x
  wq : ∀ c t, I.wq (ix2 c t) = wq (ix2 c ⟨512 * d.val + t.val, by omega⟩)
  wo : ∀ t n, I.wo (ix2 t n) = wo (ix2 ⟨512 * d.val + t.val, by omega⟩ n)
  k : ∀ b j t, I.k (ix3 b j t) = k (ix4 b j ⟨8 * d.val + t.val / 64, by omega⟩ ⟨t.val % 64, by omega⟩)
  v : ∀ b j t, I.v (ix3 b j t) = v (ix4 b j ⟨8 * d.val + t.val / 64, by omega⟩ ⟨t.val % 64, by omega⟩)

variable {x wq wo k v}

theorem scores_real (hx : ∀ i, Real' (x i)) (hq : ∀ i, Real' (wq i)) (hk : ∀ i, Real' (k i)) (b : Fin 2) (h : Fin 32) (r : Fin 256)
    (j : Fin 512) : Real' (scores x wq k (ix4 b h r j)) := by
  rw [scores_at]
  exact (Real'.sum fun d => (Real'.sum fun c => (hx _).mul (hq _)).mul (hk _)).mul sc_real

/-- A device's score is the reference's. -/
theorem score_eq (hx : ∀ i, Real' (x i)) (hq : ∀ i, Real' (wq i)) (hk : ∀ i, Real' (k i)) {I : Inp Ideal} {d : Fin 4}
    (hI : Share x wq wo k v I d) (b : Fin 2) (h : Fin 8) (r : Fin 256) (j : Fin 512) :
    score I b h r j = scores x wq k (ix4 b ⟨8 * d.val + h.val, by omega⟩ r j) := by
  rw [scores_at]
  refine Eq.trans ?_ (sum_scaled (fun e => Real'.sum fun c => (hx _).mul (hq _)) (fun e => hk _) sc_real)
  refine Finset.sum_congr rfl fun e _ => ?_
  have hh : (⟨8 * d.val + (64 * h.val + e.val) / 64, by omega⟩ : Fin 32) = ⟨8 * d.val + h.val, by omega⟩ := Fin.ext (by simp only; omega)
  have he : (⟨(64 * h.val + e.val) % 64, by omega⟩ : Fin 64) = e := Fin.ext (by simp only; omega)
  rw [hI.k]
  unfold qv
  simp only [hI.x, hI.wq]
  rw [hh, he]
  have hc : (⟨512 * d.val + (64 * h.val + e.val), by omega⟩ : Fin 2048) = ⟨(8 * d.val + h.val) * 64 + e.val, by omega⟩ :=
    Fin.ext (by simp only; omega)
  rw [hc]

/-- A device's head output is the reference's. -/
theorem attn_eq (hx : ∀ i, Real' (x i)) (hq : ∀ i, Real' (wq i)) (hk : ∀ i, Real' (k i)) {I : Inp Ideal} {d : Fin 4}
    (hI : Share x wq wo k v I d) (b : Fin 2) (r : Fin 256) (t : Fin 512) :
    attn I b r t = heads (weights (scores x wq k)) v (ix4 b r ⟨8 * d.val + t.val / 64, by omega⟩ ⟨t.val % 64, by omega⟩) := by
  have hs := scores_real hx hq hk b ⟨8 * d.val + t.val / 64, by omega⟩ r
  rw [heads_at]
  simp only [weights_at]
  unfold attn
  rw [funext (score_eq hx hq hk hI b ⟨t.val / 64, by omega⟩ r), mean_eq hs _ (top_at _ b _ r ▸ Real'.fold_max hs)]
  simp only [hI.v]

/-- **The sum of the devices' projections is the reference's result.** -/
theorem total_eq (hx : ∀ i, Real' (x i)) (hq : ∀ i, Real' (wq i)) (hk : ∀ i, Real' (k i)) {I : Dev KernelIdeal.nD → Inp Ideal}
    (hI : ∀ d, Share x wq wo k v (I d) d) (b : Fin 2) (r : Fin 256) (n : Fin 768) :
    total I b r n = result x wq wo k v (ix3 b r n) := by
  unfold result
  rw [projected_at, sum_columns]
  refine Finset.sum_congr rfl fun d _ => Finset.sum_congr rfl fun t _ => ?_
  have hd : d.val < 4 := d.isLt
  rw [attn_eq hx hq hk (hI d), (hI d).wo]
  have hh : (⟨8 * d.val + t.val / 64, by omega⟩ : Fin 32) = ⟨(512 * d.val + t.val) / 64, by omega⟩ := Fin.ext (by simp only; omega)
  have he : (⟨t.val % 64, by omega⟩ : Fin 64) = ⟨(512 * d.val + t.val) % 64, by omega⟩ := Fin.ext (by simp only; omega)
  rw [hh, he]

end Cert.CrossAttn.Ref

end
-- ==== Proof.Value.lean ====
/-
  The two programs' values from the same arrays: what the precondition says of an element, where a block's element is in
  its whole array, and the equality of the results.
-/
module

public import proofs.«01_k».proof.Defs
public import proofs.«01_k».proof.Proof.Inputs
public import proofs.«01_k».proof.Proof.Reference

@[expose] public section

noncomputable section

namespace Cert.CrossAttn

open Idealize.ShloMosaic Idealize.ShloMosaic.TcCoe

/-! ## The precondition -/

instance finiteKernel : Cert.Pre_scores_finite_KernelIdeal.Facts := ⟨by decide, by decide, by decide⟩
instance finiteReference : Cert.Pre_scores_finite_ReferenceIdeal.Facts := ⟨by decide, by decide, by decide⟩

/-- A number whose absolute value is below infinity is real. -/
theorem real_of_lt {a : EReal} (h : BitVec.ofBool (decide (max a (-a) < Ideal.ofBits .bf16 0x7F80#16)) = 1#1) : Real' a := by
  have e : Ideal.ofBits .bf16 0x7F80#16 = ⊤ := by simp [Ideal.ofBits, Ideal.ieee]
  rw [e] at h
  induction a with
  | bot => simp at h
  | top => simp at h
  | coe r => exact ⟨r, rfl⟩

theorem real_of_finite {S : Shape} {hb : (⟨0, ![]⟩ : Shape).BroadcastsInDim S ![]} {a : FVec Ideal S .bf16}
    (h : cmpf .olt (Host.absf a) (broadcastInDim S ![] hb (constant (F := Ideal) ⟨0, ![]⟩ .bf16 0x7F80#16)) = fun _ => 1#1) (i : S.Idx) : Real' (a i) :=
  real_of_lt (congrFun h i)

/-! ## Blocks at coordinates -/

section Blocks
variable (d : Fin 4)

theorem block_wq (w : (⟨2, ![768, 2048]⟩ : Shape).Idx → EReal) (r : Fin 768) (t : Fin 512) :
    (Layout.block ⟨2, ![768, 512]⟩ ⟨2, ![768, 2048]⟩ 1 4 d w) (ix2 r t) = w (ix2 r ⟨512 * d.val + t.val, by omega⟩) :=
  congrArg w (funext fun a => Fin.ext (match a with
    | 0 => rfl
    | 1 => show d.val * 512 + t.val = 512 * d.val + t.val by omega))

theorem block_wo (w : (⟨2, ![2048, 768]⟩ : Shape).Idx → EReal) (t : Fin 512) (n : Fin 768) :
    (Layout.block ⟨2, ![512, 768]⟩ ⟨2, ![2048, 768]⟩ 0 4 d w) (ix2 t n) = w (ix2 ⟨512 * d.val + t.val, by omega⟩ n) :=
  congrArg w (funext fun a => Fin.ext (match a with
    | 0 => show d.val * 512 + t.val = 512 * d.val + t.val by omega
    | 1 => rfl))

theorem block_heads (w : (⟨4, ![2, 512, 32, 64]⟩ : Shape).Idx → EReal) (b : Fin 2) (j : Fin 512) (h : Fin 8) (e : Fin 64) :
    (Layout.block ⟨4, ![2, 512, 8, 64]⟩ ⟨4, ![2, 512, 32, 64]⟩ 2 4 d w) (ix4 b j h e) = w (ix4 b j ⟨8 * d.val + h.val, by omega⟩ e) :=
  congrArg w (funext fun a => Fin.ext (match a with
    | 0 => rfl
    | 1 => rfl
    | 2 => show d.val * 8 + h.val = 8 * d.val + h.val by omega
    | 3 => rfl))

end Blocks

/-! ## The value -/

section Value
variable {m : (ℓ : Loc KernelIdeal.nD KernelIdeal.τ KernelIdeal.sig) → Buf (Elt Ideal) ℓ}
  {x : FVec Ideal ReferenceIdeal.S2x256x768 .bf16} {wq : FVec Ideal ReferenceIdeal.S768x2048 .bf16}
  {wo : FVec Ideal ReferenceIdeal.S2048x768 .bf16} {k v : FVec Ideal ReferenceIdeal.S2x512x32x64 .bf16}

/-- Every device's arguments are its parts of the whole arrays `x`, `wq`, `wo`, `k`, `v`. -/
def Parted (m : (ℓ : Loc KernelIdeal.nD KernelIdeal.τ KernelIdeal.sig) → Buf (Elt Ideal) ℓ)
    (x : FVec Ideal ReferenceIdeal.S2x256x768 .bf16) (wq : FVec Ideal ReferenceIdeal.S768x2048 .bf16)
    (wo : FVec Ideal ReferenceIdeal.S2048x768 .bf16) (k v : FVec Ideal ReferenceIdeal.S2x512x32x64 .bf16) : Prop :=
  ∀ c : Dev KernelIdeal.nD,
    m ((c : Thread KernelIdeal.nD KernelIdeal.τ).loc KernelIdeal.main_arg0) = x
    ∧ m ((c : Thread KernelIdeal.nD KernelIdeal.τ).loc KernelIdeal.main_arg1) = Layout.block ⟨2, ![768, 512]⟩ ⟨2, ![768, 2048]⟩ 1 4 c wq
    ∧ m ((c : Thread KernelIdeal.nD KernelIdeal.τ).loc KernelIdeal.main_arg2) = Layout.block ⟨2, ![512, 768]⟩ ⟨2, ![2048, 768]⟩ 0 4 c wo
    ∧ m ((c : Thread KernelIdeal.nD KernelIdeal.τ).loc KernelIdeal.main_arg3) = Layout.block ⟨4, ![2, 512, 8, 64]⟩ ⟨4, ![2, 512, 32, 64]⟩ 2 4 c k
    ∧ m ((c : Thread KernelIdeal.nD KernelIdeal.τ).loc KernelIdeal.main_arg4) = Layout.block ⟨4, ![2, 512, 8, 64]⟩ ⟨4, ![2, 512, 32, 64]⟩ 2 4 c v

theorem share (h : Parted m x wq wo k v) (c : Dev KernelIdeal.nD) : Ref.Share x wq wo k v (inp m c) c where
  x := (inp_x m c).trans (h c).1
  wq r t := by rw [inp_wq, (h c).2.1]; exact block_wq c wq r t
  wo t n := by rw [inp_wo, (h c).2.2.1]; exact block_wo c wo t n
  k b j t := by rw [inp_k, (h c).2.2.2.1]; exact block_heads c k b j _ _
  v b j t := by rw [inp_v, (h c).2.2.2.2]; exact block_heads c v b j _ _

theorem x_real (h : Parted m x wq wo k v) (hp : Cert.Pre_KernelIdeal_scores_finite_KernelIdeal m) (i) : Real' (x i) :=
  (h 0).1 ▸ real_of_finite (hp 0).1 i

theorem wq_real (h : Parted m x wq wo k v) (hp : Cert.Pre_KernelIdeal_scores_finite_KernelIdeal m) (i) : Real' (wq i) := by
  obtain ⟨r, t, rfl⟩ : ∃ (r : Fin 768) (t : Fin 2048), i = ix2 r t := ⟨i 0, i 1, (ValueIdx.eq_ix2 i).trans (ix2_eq_valueIdx _ _).symm⟩
  have hr := real_of_finite (hp (⟨t.val / 512, by omega⟩ : Fin 4)).2.1 (ix2 r ⟨t.val % 512, by omega⟩)
  rw [(h _).2.1, block_wq] at hr
  have e : (⟨512 * (t.val / 512) + t.val % 512, by omega⟩ : Fin 2048) = t := Fin.ext (Nat.div_add_mod _ _)
  rwa [e] at hr

theorem k_real (h : Parted m x wq wo k v) (hp : Cert.Pre_KernelIdeal_scores_finite_KernelIdeal m) (i) : Real' (k i) := by
  obtain ⟨b, j, t, e, rfl⟩ : ∃ (b : Fin 2) (j : Fin 512) (t : Fin 32) (e : Fin 64), i = ix4 b j t e :=
    ⟨i 0, i 1, i 2, i 3, (ValueIdx.eq_ix4 i).trans (ix4_eq_valueIdx _ _ _ _).symm⟩
  have hr := real_of_finite (hp (⟨t.val / 8, by omega⟩ : Fin 4)).2.2 (ix4 b j ⟨t.val % 8, by omega⟩ e)
  rw [(h _).2.2.2.1, block_heads] at hr
  have e : (⟨8 * (t.val / 8) + t.val % 8, by omega⟩ : Fin 32) = t := Fin.ext (Nat.div_add_mod _ _)
  rwa [e] at hr

/-- **Every device ends with the reference's result.** -/
theorem value (h : Parted m x wq wo k v) (hp : Cert.Pre_KernelIdeal_scores_finite_KernelIdeal m) (c : Dev KernelIdeal.nD) :
    outv (inp m) c = Ref.result x wq wo k v := by
  funext i
  obtain ⟨b, r, n, rfl⟩ : ∃ (b : Fin 2) (r : Fin 256) (n : Fin 768), i = ix3 b r n :=
    ⟨i 0, i 1, i 2, (ValueIdx.eq_ix3 i).trans (ix3_eq_valueIdx _ _ _).symm⟩
  exact (outv_at (inp m) c b r n).trans (Ref.total_eq (x_real h hp) (wq_real h hp) (k_real h hp) (share h) b r n)

end Value

end Cert.CrossAttn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The two printings of the kernel have the same text: the same body at every grid point … -/
theorem body_eq : @Cert.Kernel.cc0_body Bits _ _ = @Cert.KernelIdeal.cc0_body Bits _ _ := rfl

/-- … so the same body table … -/
theorem defs₀_eq : Cert.Kernel.defs₀ (F := Bits) = Cert.KernelIdeal.defs₀ (F := Bits) := by
  refine congrArg Defs.onTc (funext fun l => ?_)
  obtain rfl : l = (0 : Fin 1) := Subsingleton.elim _ _
  funext x
  rcases x with ⟨t, s⟩
  exact rfl

/-- … and the same table with the call's region. -/
theorem defs_eq : Cert.Kernel.defs (F := Bits) = Cert.KernelIdeal.defs (F := Bits) :=
  congrArg (Pipeline.defs (Cert.KernelIdeal.pcfgs (F := Bits))) defs₀_eq

/-- The kernel at the machine's own float words: the run proved over any float values, read at its arguments and
    its counters. -/
theorem frame_kernel : Cert.quiescent_Kernel := fun m ρ _ => by
  have h := Cert.CrossAttn.run_main (F := Bits) m ρ
  rw [← defs_eq] at h
  exact (θ_run (Cert.Kernel.defs (F := Bits)) _ _).mono (fun _ h => ⟨fun c => (h.1 c).2, h.2⟩) h

/-- The kernel at the exact values. -/
theorem frame_ideal : Cert.quiescent_KernelIdeal := fun m ρ _ =>
  (θ_run Cert.KernelIdeal.defs _ _).mono (fun _ h => ⟨fun c => (h.1 c).2, h.2⟩)
    (Cert.CrossAttn.run_main (F := Ideal) m ρ)

/-- The reference at the exact values: it declares no semaphore, so every counter reads zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The value claim: on scores that are finite, every device ends with the reference's result. -/
theorem algebraic : Cert.algebraic_KernelIdeal_ReferenceIdeal_pre_scores_finite_KernelIdeal := fun m g m' g' hp ha =>
  ⟨_, (θ_run Cert.KernelIdeal.defs _ _).mono (fun _ h c => ⟨(h.1 c).1.trans (Cert.CrossAttn.value ha hp c), (h.1 c).2⟩)
      (Cert.CrossAttn.run_main (F := Ideal) m g),
    (θ_run Cert.ReferenceIdeal.defs _ _).mono (fun _ h => h 0) (Cert.ReferenceIdeal.Value.run (F := Ideal) m' g')⟩

/-- Every claim of the certificate. -/
theorem claim : Cert.Claim :=
  ⟨Cert.Kernel.Gen.facts, Cert.KernelIdeal.Gen.facts, Cert.ReferenceIdeal.Gen.facts,
    Cert.CrossAttn.finiteKernel, Cert.CrossAttn.finiteReference,
    frame_kernel, frame_ideal, fun m g _ => frame_ideal m g trivial, frame_reference, fun m g _ => frame_reference m g trivial,
    trivial, algebraic⟩

end Cert.Proof

end
